-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x32768 : Shape := ⟨2, ![1024, 32768]⟩
abbrev S1x1024x8x128 : Shape := ⟨4, ![1, 1024, 8, 128]⟩
abbrev S32768x1024 : Shape := ⟨2, ![32768, 1024]⟩
abbrev S_ : Shape := ⟨0, ![]⟩
abbrev S1024x1024 : Shape := ⟨2, ![1024, 1024]⟩
abbrev S1024x128 : Shape := ⟨2, ![1024, 128]⟩
abbrev S128x1024 : Shape := ⟨2, ![128, 1024]⟩
abbrev S1024 : Shape := ⟨1, ![1024]⟩
abbrev S1024x1 : Shape := ⟨2, ![1024, 1]⟩
abbrev S31x32x1024 : Shape := ⟨3, ![31, 32, 1024]⟩
abbrev S31 : Shape := ⟨1, ![31]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 34
  | .vmem => 13
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x8x128, .f32⟩
  | .hbm, ⟨3, _⟩ => ⟨S1x1024x8x128, .f32⟩
  | .hbm, ⟨4, _⟩ => ⟨S32768x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1x1024x1024, .f32⟩
  | .local _ .vmem, ⟨0, _⟩ => ⟨S1x1024x1024, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S128x1024, .f32⟩
  | .local _ .vmem, ⟨8, _⟩ => ⟨S128x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S31x32x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem1_0 : DmaSem sig := 11
abbrev barrier0 : Sem sig := 0

abbrev nD : Nat := 32
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_28 : BitVec 32 := 0#32
  let v78 : BitVec 1 := Scalar.cmpi .eq arg0 c0_i32_28
  let v79 : BitVec 32 := Scalar.extui v78
  let c0_i32_29 : BitVec 32 := 0#32
  let v80 : BitVec 1 := Scalar.cmpi .ne v79 c0_i32_29
  v80

def k0_cond2 (i : grid0.Coords) : BitVec 1 :=
  let arg0 : BitVec 32 := BitVec.ofNat 32 (i 0).val
  let c0_i32_30 : BitVec 32 := 0#32
  let v81 : BitVec 1 := Scalar.cmpi .ne arg0 c0_i32_30
  let v82 : BitVec 32 := Scalar.extui v81
  let c0_i32_31 : BitVec 32 := 0#32
  let v83 : BitVec 1 := Scalar.cmpi .ne v82 c0_i32_31
  v83

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k1_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k1_off1 (d0 : Dev nD) (c0_i32_13 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v16 : BitVec 32 := Scalar.subi v2 c0_i32_13
  let c32_i32_14 : BitVec 32 := 32#32
  let v17 : BitVec 32 := Scalar.addi v16 c32_i32_14
  let c32_i32_15 : BitVec 32 := 32#32
  let v18 : BitVec 32 := Scalar.remsi v17 c32_i32_15
  let c32_i32_20 : BitVec 32 := 32#32
  let v23 : BitVec 32 := Scalar.muli v18 c32_i32_20
  let c0_i32_27 : BitVec 32 := 0#32
  ![v23.toNat, 0]
def k1_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_23 : BitVec 32 := 1#32
  let v24 : BitVec 32 := Scalar.muli v7 c1_i32_23
  let v25 : BitVec 32 := Scalar.addi c0_i32_24 v24
  v25.toNat
def k1_off2 (d0 : Dev nD) (c0_i32_16 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v19 : BitVec 32 := Scalar.subi v2 c0_i32_16
  let c1_i32_17 : BitVec 32 := 1#32
  let v20 : BitVec 32 := Scalar.subi v19 c1_i32_17
  let c32_i32_18 : BitVec 32 := 32#32
  let v21 : BitVec 32 := Scalar.addi v20 c32_i32_18
  let c32_i32_19 : BitVec 32 := 32#32
  let v22 : BitVec 32 := Scalar.remsi v21 c32_i32_19
  let c32_i32_41 : BitVec 32 := 32#32
  let v41 : BitVec 32 := Scalar.muli v22 c32_i32_41
  let v42 : Index := Scalar.indexCast v41
  let c0_42 : Index := 0#32
  ![v42.toNat, 0]
def k1_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_57 : BitVec 32 := 1#32
  let v58 : BitVec 32 := Scalar.muli v7 c1_i32_57
  let v59 : BitVec 32 := Scalar.addi c0_i32_58 v58
  v59.toNat
def k1_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_90 : BitVec 32 := 1#32
  let v92 : BitVec 32 := Scalar.muli v7 c1_i32_90
  let v93 : BitVec 32 := Scalar.addi c0_i32_91 v92
  v93.toNat
def k1_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_122 : BitVec 32 := 1#32
  let v126 : BitVec 32 := Scalar.muli v7 c1_i32_122
  let v127 : BitVec 32 := Scalar.addi c0_i32_123 v126
  v127.toNat
def k1_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_154 : BitVec 32 := 1#32
  let v160 : BitVec 32 := Scalar.muli v7 c1_i32_154
  let v161 : BitVec 32 := Scalar.addi c0_i32_155 v160
  v161.toNat
def k1_dev8 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_186 : BitVec 32 := 1#32
  let v194 : BitVec 32 := Scalar.muli v7 c1_i32_186
  let v195 : BitVec 32 := Scalar.addi c0_i32_187 v194
  v195.toNat
def k1_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_218 : BitVec 32 := 1#32
  let v228 : BitVec 32 := Scalar.muli v7 c1_i32_218
  let v229 : BitVec 32 := Scalar.addi c0_i32_219 v228
  v229.toNat
def k1_dev10 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_250 : BitVec 32 := 1#32
  let v262 : BitVec 32 := Scalar.muli v7 c1_i32_250
  let v263 : BitVec 32 := Scalar.addi c0_i32_251 v262
  v263.toNat
def k1_dev11 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_282 : BitVec 32 := 1#32
  let v296 : BitVec 32 := Scalar.muli v7 c1_i32_282
  let v297 : BitVec 32 := Scalar.addi c0_i32_283 v296
  v297.toNat
def k1_dev12 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_314 : BitVec 32 := 1#32
  let v330 : BitVec 32 := Scalar.muli v7 c1_i32_314
  let v331 : BitVec 32 := Scalar.addi c0_i32_315 v330
  v331.toNat
def k1_dev13 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_346 : BitVec 32 := 1#32
  let v364 : BitVec 32 := Scalar.muli v7 c1_i32_346
  let v365 : BitVec 32 := Scalar.addi c0_i32_347 v364
  v365.toNat
def k1_dev14 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_378 : BitVec 32 := 1#32
  let v398 : BitVec 32 := Scalar.muli v7 c1_i32_378
  let v399 : BitVec 32 := Scalar.addi c0_i32_379 v398
  v399.toNat
def k1_dev15 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_410 : BitVec 32 := 1#32
  let v432 : BitVec 32 := Scalar.muli v7 c1_i32_410
  let v433 : BitVec 32 := Scalar.addi c0_i32_411 v432
  v433.toNat
def k1_dev16 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_442 : BitVec 32 := 1#32
  let v466 : BitVec 32 := Scalar.muli v7 c1_i32_442
  let v467 : BitVec 32 := Scalar.addi c0_i32_443 v466
  v467.toNat
def k1_dev17 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_474 : BitVec 32 := 1#32
  let v500 : BitVec 32 := Scalar.muli v7 c1_i32_474
  let v501 : BitVec 32 := Scalar.addi c0_i32_475 v500
  v501.toNat
def k1_dev18 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_506 : BitVec 32 := 1#32
  let v534 : BitVec 32 := Scalar.muli v7 c1_i32_506
  let v535 : BitVec 32 := Scalar.addi c0_i32_507 v534
  v535.toNat
def k1_dev19 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_538 : BitVec 32 := 1#32
  let v568 : BitVec 32 := Scalar.muli v7 c1_i32_538
  let v569 : BitVec 32 := Scalar.addi c0_i32_539 v568
  v569.toNat
def k1_dev20 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_570 : BitVec 32 := 1#32
  let v602 : BitVec 32 := Scalar.muli v7 c1_i32_570
  let v603 : BitVec 32 := Scalar.addi c0_i32_571 v602
  v603.toNat
def k1_dev21 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_602 : BitVec 32 := 1#32
  let v636 : BitVec 32 := Scalar.muli v7 c1_i32_602
  let v637 : BitVec 32 := Scalar.addi c0_i32_603 v636
  v637.toNat
def k1_dev22 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_634 : BitVec 32 := 1#32
  let v670 : BitVec 32 := Scalar.muli v7 c1_i32_634
  let v671 : BitVec 32 := Scalar.addi c0_i32_635 v670
  v671.toNat
def k1_dev23 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_666 : BitVec 32 := 1#32
  let v704 : BitVec 32 := Scalar.muli v7 c1_i32_666
  let v705 : BitVec 32 := Scalar.addi c0_i32_667 v704
  v705.toNat
def k1_dev24 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_698 : BitVec 32 := 1#32
  let v738 : BitVec 32 := Scalar.muli v7 c1_i32_698
  let v739 : BitVec 32 := Scalar.addi c0_i32_699 v738
  v739.toNat
def k1_dev25 (d0 : Dev nD) : Nat :=
  let c0_i32_731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_730 : BitVec 32 := 1#32
  let v772 : BitVec 32 := Scalar.muli v7 c1_i32_730
  let v773 : BitVec 32 := Scalar.addi c0_i32_731 v772
  v773.toNat
def k1_dev26 (d0 : Dev nD) : Nat :=
  let c0_i32_763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_762 : BitVec 32 := 1#32
  let v806 : BitVec 32 := Scalar.muli v7 c1_i32_762
  let v807 : BitVec 32 := Scalar.addi c0_i32_763 v806
  v807.toNat
def k1_dev27 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_794 : BitVec 32 := 1#32
  let v840 : BitVec 32 := Scalar.muli v7 c1_i32_794
  let v841 : BitVec 32 := Scalar.addi c0_i32_795 v840
  v841.toNat
def k1_dev28 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_826 : BitVec 32 := 1#32
  let v874 : BitVec 32 := Scalar.muli v7 c1_i32_826
  let v875 : BitVec 32 := Scalar.addi c0_i32_827 v874
  v875.toNat
def k1_dev29 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_858 : BitVec 32 := 1#32
  let v908 : BitVec 32 := Scalar.muli v7 c1_i32_858
  let v909 : BitVec 32 := Scalar.addi c0_i32_859 v908
  v909.toNat
def k1_dev30 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_890 : BitVec 32 := 1#32
  let v942 : BitVec 32 := Scalar.muli v7 c1_i32_890
  let v943 : BitVec 32 := Scalar.addi c0_i32_891 v942
  v943.toNat
def k1_dev31 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_922 : BitVec 32 := 1#32
  let v976 : BitVec 32 := Scalar.muli v7 c1_i32_922
  let v977 : BitVec 32 := Scalar.addi c0_i32_923 v976
  v977.toNat
def k1_dev32 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_954 : BitVec 32 := 1#32
  let v1010 : BitVec 32 := Scalar.muli v7 c1_i32_954
  let v1011 : BitVec 32 := Scalar.addi c0_i32_955 v1010
  v1011.toNat
def k1_dev33 (d0 : Dev nD) : Nat :=
  let c0_i32_987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_986 : BitVec 32 := 1#32
  let v1044 : BitVec 32 := Scalar.muli v7 c1_i32_986
  let v1045 : BitVec 32 := Scalar.addi c0_i32_987 v1044
  v1045.toNat
def k1_dev34 (d0 : Dev nD) : Nat :=
  let c0_i32_1011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1010 : BitVec 32 := 1#32
  let v1070 : BitVec 32 := Scalar.muli v5 c1_i32_1010
  let v1071 : BitVec 32 := Scalar.addi c0_i32_1011 v1070
  v1071.toNat
def k1_dev35 (d0 : Dev nD) : Nat :=
  let c0_i32_1014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1013 : BitVec 32 := 1#32
  let v1072 : BitVec 32 := Scalar.muli v7 c1_i32_1013
  let v1073 : BitVec 32 := Scalar.addi c0_i32_1014 v1072
  v1073.toNat
def k1_off3 (d0 : Dev nD) (c0_i32_1018 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1017 : BitVec 32 := 1#32
  let v1074 : BitVec 32 := Scalar.addi v2 c1_i32_1017
  let v1075 : BitVec 32 := Scalar.subi v1074 c0_i32_1018
  let c32_i32_1019 : BitVec 32 := 32#32
  let v1076 : BitVec 32 := Scalar.addi v1075 c32_i32_1019
  let c32_i32_1020 : BitVec 32 := 32#32
  let v1077 : BitVec 32 := Scalar.remsi v1076 c32_i32_1020
  let c32_i32_1022 : BitVec 32 := 32#32
  let v1079 : BitVec 32 := Scalar.muli v1077 c32_i32_1022
  let c0_i32_1026 : BitVec 32 := 0#32
  ![v1079.toNat, 0]
def k1_dev36 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1024 : BitVec 32 := 1#32
  let v1080 : BitVec 32 := Scalar.muli v7 c1_i32_1024
  let v1081 : BitVec 32 := Scalar.addi c0_i32_1025 v1080
  v1081.toNat
def k1_dev37 (d0 : Dev nD) : Nat :=
  let c0_i32_1045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1044 : BitVec 32 := 1#32
  let v1100 : BitVec 32 := Scalar.muli v7 c1_i32_1044
  let v1101 : BitVec 32 := Scalar.addi c0_i32_1045 v1100
  v1101.toNat
def k1_dev38 (d0 : Dev nD) : Nat :=
  let c0_i32_1065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1064 : BitVec 32 := 1#32
  let v1120 : BitVec 32 := Scalar.muli v7 c1_i32_1064
  let v1121 : BitVec 32 := Scalar.addi c0_i32_1065 v1120
  v1121.toNat
def k1_dev39 (d0 : Dev nD) : Nat :=
  let c0_i32_1085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1084 : BitVec 32 := 1#32
  let v1140 : BitVec 32 := Scalar.muli v7 c1_i32_1084
  let v1141 : BitVec 32 := Scalar.addi c0_i32_1085 v1140
  v1141.toNat
def k1_dev40 (d0 : Dev nD) : Nat :=
  let c0_i32_1105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1104 : BitVec 32 := 1#32
  let v1160 : BitVec 32 := Scalar.muli v7 c1_i32_1104
  let v1161 : BitVec 32 := Scalar.addi c0_i32_1105 v1160
  v1161.toNat
def k1_dev41 (d0 : Dev nD) : Nat :=
  let c0_i32_1125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1124 : BitVec 32 := 1#32
  let v1180 : BitVec 32 := Scalar.muli v7 c1_i32_1124
  let v1181 : BitVec 32 := Scalar.addi c0_i32_1125 v1180
  v1181.toNat
def k1_dev42 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1144 : BitVec 32 := 1#32
  let v1200 : BitVec 32 := Scalar.muli v7 c1_i32_1144
  let v1201 : BitVec 32 := Scalar.addi c0_i32_1145 v1200
  v1201.toNat
def k1_dev43 (d0 : Dev nD) : Nat :=
  let c0_i32_1165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1164 : BitVec 32 := 1#32
  let v1220 : BitVec 32 := Scalar.muli v7 c1_i32_1164
  let v1221 : BitVec 32 := Scalar.addi c0_i32_1165 v1220
  v1221.toNat
def k1_dev44 (d0 : Dev nD) : Nat :=
  let c0_i32_1185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1184 : BitVec 32 := 1#32
  let v1240 : BitVec 32 := Scalar.muli v7 c1_i32_1184
  let v1241 : BitVec 32 := Scalar.addi c0_i32_1185 v1240
  v1241.toNat
def k1_dev45 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1204 : BitVec 32 := 1#32
  let v1260 : BitVec 32 := Scalar.muli v7 c1_i32_1204
  let v1261 : BitVec 32 := Scalar.addi c0_i32_1205 v1260
  v1261.toNat
def k1_dev46 (d0 : Dev nD) : Nat :=
  let c0_i32_1225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1224 : BitVec 32 := 1#32
  let v1280 : BitVec 32 := Scalar.muli v7 c1_i32_1224
  let v1281 : BitVec 32 := Scalar.addi c0_i32_1225 v1280
  v1281.toNat
def k1_dev47 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1244 : BitVec 32 := 1#32
  let v1300 : BitVec 32 := Scalar.muli v7 c1_i32_1244
  let v1301 : BitVec 32 := Scalar.addi c0_i32_1245 v1300
  v1301.toNat
def k1_dev48 (d0 : Dev nD) : Nat :=
  let c0_i32_1265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1264 : BitVec 32 := 1#32
  let v1320 : BitVec 32 := Scalar.muli v7 c1_i32_1264
  let v1321 : BitVec 32 := Scalar.addi c0_i32_1265 v1320
  v1321.toNat
def k1_dev49 (d0 : Dev nD) : Nat :=
  let c0_i32_1285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1284 : BitVec 32 := 1#32
  let v1340 : BitVec 32 := Scalar.muli v7 c1_i32_1284
  let v1341 : BitVec 32 := Scalar.addi c0_i32_1285 v1340
  v1341.toNat
def k1_dev50 (d0 : Dev nD) : Nat :=
  let c0_i32_1305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1304 : BitVec 32 := 1#32
  let v1360 : BitVec 32 := Scalar.muli v7 c1_i32_1304
  let v1361 : BitVec 32 := Scalar.addi c0_i32_1305 v1360
  v1361.toNat
def k1_dev51 (d0 : Dev nD) : Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1324 : BitVec 32 := 1#32
  let v1380 : BitVec 32 := Scalar.muli v7 c1_i32_1324
  let v1381 : BitVec 32 := Scalar.addi c0_i32_1325 v1380
  v1381.toNat
def k1_dev52 (d0 : Dev nD) : Nat :=
  let c0_i32_1345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1344 : BitVec 32 := 1#32
  let v1400 : BitVec 32 := Scalar.muli v7 c1_i32_1344
  let v1401 : BitVec 32 := Scalar.addi c0_i32_1345 v1400
  v1401.toNat
def k1_dev53 (d0 : Dev nD) : Nat :=
  let c0_i32_1365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1364 : BitVec 32 := 1#32
  let v1420 : BitVec 32 := Scalar.muli v7 c1_i32_1364
  let v1421 : BitVec 32 := Scalar.addi c0_i32_1365 v1420
  v1421.toNat
def k1_dev54 (d0 : Dev nD) : Nat :=
  let c0_i32_1385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1384 : BitVec 32 := 1#32
  let v1440 : BitVec 32 := Scalar.muli v7 c1_i32_1384
  let v1441 : BitVec 32 := Scalar.addi c0_i32_1385 v1440
  v1441.toNat
def k1_dev55 (d0 : Dev nD) : Nat :=
  let c0_i32_1405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1404 : BitVec 32 := 1#32
  let v1460 : BitVec 32 := Scalar.muli v7 c1_i32_1404
  let v1461 : BitVec 32 := Scalar.addi c0_i32_1405 v1460
  v1461.toNat
def k1_dev56 (d0 : Dev nD) : Nat :=
  let c0_i32_1425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1424 : BitVec 32 := 1#32
  let v1480 : BitVec 32 := Scalar.muli v7 c1_i32_1424
  let v1481 : BitVec 32 := Scalar.addi c0_i32_1425 v1480
  v1481.toNat
def k1_dev57 (d0 : Dev nD) : Nat :=
  let c0_i32_1445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1444 : BitVec 32 := 1#32
  let v1500 : BitVec 32 := Scalar.muli v7 c1_i32_1444
  let v1501 : BitVec 32 := Scalar.addi c0_i32_1445 v1500
  v1501.toNat
def k1_dev58 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1464 : BitVec 32 := 1#32
  let v1520 : BitVec 32 := Scalar.muli v7 c1_i32_1464
  let v1521 : BitVec 32 := Scalar.addi c0_i32_1465 v1520
  v1521.toNat
def k1_dev59 (d0 : Dev nD) : Nat :=
  let c0_i32_1485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1484 : BitVec 32 := 1#32
  let v1540 : BitVec 32 := Scalar.muli v7 c1_i32_1484
  let v1541 : BitVec 32 := Scalar.addi c0_i32_1485 v1540
  v1541.toNat
def k1_dev60 (d0 : Dev nD) : Nat :=
  let c0_i32_1505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1504 : BitVec 32 := 1#32
  let v1560 : BitVec 32 := Scalar.muli v7 c1_i32_1504
  let v1561 : BitVec 32 := Scalar.addi c0_i32_1505 v1560
  v1561.toNat
def k1_dev61 (d0 : Dev nD) : Nat :=
  let c0_i32_1525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1524 : BitVec 32 := 1#32
  let v1580 : BitVec 32 := Scalar.muli v7 c1_i32_1524
  let v1581 : BitVec 32 := Scalar.addi c0_i32_1525 v1580
  v1581.toNat
def k1_dev62 (d0 : Dev nD) : Nat :=
  let c0_i32_1545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1544 : BitVec 32 := 1#32
  let v1600 : BitVec 32 := Scalar.muli v7 c1_i32_1544
  let v1601 : BitVec 32 := Scalar.addi c0_i32_1545 v1600
  v1601.toNat
def k1_dev63 (d0 : Dev nD) : Nat :=
  let c0_i32_1565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1564 : BitVec 32 := 1#32
  let v1620 : BitVec 32 := Scalar.muli v7 c1_i32_1564
  let v1621 : BitVec 32 := Scalar.addi c0_i32_1565 v1620
  v1621.toNat
def k1_dev64 (d0 : Dev nD) : Nat :=
  let c0_i32_1585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1584 : BitVec 32 := 1#32
  let v1640 : BitVec 32 := Scalar.muli v7 c1_i32_1584
  let v1641 : BitVec 32 := Scalar.addi c0_i32_1585 v1640
  v1641.toNat
def k1_dev65 (d0 : Dev nD) : Nat :=
  let c0_i32_1605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1604 : BitVec 32 := 1#32
  let v1660 : BitVec 32 := Scalar.muli v7 c1_i32_1604
  let v1661 : BitVec 32 := Scalar.addi c0_i32_1605 v1660
  v1661.toNat
def k1_dev66 (d0 : Dev nD) : Nat :=
  let c0_i32_1625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1624 : BitVec 32 := 1#32
  let v1680 : BitVec 32 := Scalar.muli v7 c1_i32_1624
  let v1681 : BitVec 32 := Scalar.addi c0_i32_1625 v1680
  v1681.toNat
abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x256x128, .f32⟩
  | .hbm, ⟨3, _⟩ => ⟨S1x1024x256x128, .f32⟩
  | .hbm, ⟨4, _⟩ => ⟨S32768x1024, .f32⟩
  | .hbm, ⟨5, _⟩ => ⟨S1x1024x32768, .f32⟩
  | .hbm, ⟨6, _⟩ => ⟨S1x1024x256x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S1x256x1024x1024, .f32⟩
  | .hbm, ⟨51, _⟩ => ⟨S_, .f32⟩
  | .hbm, ⟨52, _⟩ => ⟨S1x256x1024x1024, .f32⟩
  | .hbm, ⟨53, _⟩ => ⟨S1x256x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S1x256x1024x1024, .i1⟩
  | .hbm, ⟨58, _⟩ => ⟨S1x256x1024x1024, .f32⟩
  | .hbm, ⟨59, _⟩ => ⟨S1x256x1024x1024, .f32⟩
  | .hbm, ⟨60, _⟩ => ⟨S_, .f32⟩
  | .hbm, ⟨61, _⟩ => ⟨S1x256x1024, .f32⟩
  | .hbm, ⟨62, _⟩ => ⟨S1x256x1024x1, .f32⟩
  | .hbm, ⟨63, _⟩ => ⟨S1x256x1024x1024, .f32⟩
  | .hbm, ⟨64, _⟩ => ⟨S1x256x1024x1024, .f32⟩
  | .hbm, ⟨65, _⟩ => ⟨S1x256x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x256x1024, .f32⟩
  | .hbm, ⟨71, _⟩ => ⟨S1x256x1024x1, .f32⟩
  | .hbm, ⟨72, _⟩ => ⟨S_, .f32⟩
  | .hbm, ⟨73, _⟩ => ⟨S_, .f32⟩
  | .hbm, ⟨74, _⟩ => ⟨S1x256x1024x1, .i1⟩
  | .hbm, ⟨75, _⟩ => ⟨S1x256x1024x1, .f32⟩
  | .hbm, ⟨76, _⟩ => ⟨S1x256x1024x1, .f32⟩
  | .hbm, ⟨77, _⟩ => ⟨S1x256x1024x1024, .f32⟩
  | .hbm, ⟨78, _⟩ => ⟨S1x256x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x256x1024x1024, .i1⟩
  | .hbm, ⟨83, _⟩ => ⟨S1x256x1024x1024, .f32⟩
  | .hbm, ⟨84, _⟩ => ⟨S1x256x1024x1024, .f32⟩
  | .hbm, ⟨85, _⟩ => ⟨S1x256x128x1024, .f32⟩
  | .hbm, ⟨86, _⟩ => ⟨S1x1024x256x128, .f32⟩
  | .hbm, ⟨87, _⟩ => ⟨S1x1024x32768, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Proto.lean ====
/-
  The protocol of the all-reduce call: the ring's cells, the chunks that travel on it and their contents, the schedule of
  duties with what each pays, and the values a device holds as the ring goes round.

  Device c's right neighbour is `nxt c`, its left neighbour `prv c`; chunk k of a 1024 x 1024 array is its rows 32 k to
  32 k + 31. In reduce-scatter step j device c sends its chunk c - j, which by then is the sum of the partial chunks of
  devices c - j, ..., c, into slot j of the right neighbour, and adds what arrives in its own slot j to its chunk
  c - j - 1. After 31 steps device c has the full chunk c + 1; in all-gather step j it sends the full chunk c + 1 - j to the
  same chunk of the right neighbour and receives the full chunk c - j.
-/
module

public import proofs.«01_k».proof.Proof.Gen.KernelIdeal.Launch
public import proofs.«01_k».proof.Proof.Gen.KernelIdeal.Skeleton
public import Idealize.ShloMosaic.Lib.Pipeline.TalkSites
public import Idealize.ShloMosaic.Lib.Rounds

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks Idealize.ShloMosaic.TalkSites
open Cert.KernelIdeal Cert.KernelIdeal.Gen

variable {F : FTy → Type} [FloatOps F]

/-! ## The ring -/

/-- The device `j` places to the left of `c` (`j` at most 64). -/
def back (c : Dev nD) (j : ℕ) : Dev nD := ⟨(c.val + 64 - j) % 32, Nat.mod_lt _ (by decide)⟩
/-- The right and the left neighbour. -/
def nxt (c : Dev nD) : Dev nD := ⟨(c.val + 1) % 32, Nat.mod_lt _ (by decide)⟩
@[inherit_doc nxt] def prv (c : Dev nD) : Dev nD := ⟨(c.val + 31) % 32, Nat.mod_lt _ (by decide)⟩

theorem dev_lt (c : Dev nD) : c.val < 32 := c.isLt

theorem back_zero (c : Dev nD) : back c 0 = c := by
  have := dev_lt c; apply Fin.ext; show (c.val + 64 - 0) % 32 = c.val; omega
theorem nxt_prv (c : Dev nD) : nxt (prv c) = c := by
  have := dev_lt c; apply Fin.ext; show ((c.val + 31) % 32 + 1) % 32 = c.val; omega
theorem prv_nxt (c : Dev nD) : prv (nxt c) = c := by
  have := dev_lt c; apply Fin.ext; show ((c.val + 1) % 32 + 31) % 32 = c.val; omega
theorem back_nxt (c : Dev nD) {j : ℕ} (h : j < 64) : back (nxt c) (j + 1) = back c j := by
  have := dev_lt c; apply Fin.ext; show ((c.val + 1) % 32 + 64 - (j + 1)) % 32 = (c.val + 64 - j) % 32; omega
theorem back_prv (c : Dev nD) {j : ℕ} (h : j < 64) : back (prv c) j = back c (j + 1) := by
  have := dev_lt c; apply Fin.ext; show ((c.val + 31) % 32 + 64 - j) % 32 = (c.val + 64 - (j + 1)) % 32; omega
theorem back_31 (c : Dev nD) : back c 31 = nxt c := by
  have := dev_lt c; apply Fin.ext; show (c.val + 64 - 31) % 32 = (c.val + 1) % 32; omega
theorem back_one (c : Dev nD) : back c 1 = prv c := by
  have := dev_lt c; apply Fin.ext; show (c.val + 64 - 1) % 32 = (c.val + 31) % 32; omega
theorem nxt_ne_prv (c : Dev nD) : nxt c ≠ prv c := fun h => by
  have := dev_lt c; have h : (c.val + 1) % 32 = (c.val + 31) % 32 := congrArg Fin.val h; omega
theorem nxt_inj {c d : Dev nD} (h : nxt c = nxt d) : c = d := by rw [← prv_nxt c, h, prv_nxt]
theorem prv_inj {c d : Dev nD} (h : prv c = prv d) : c = d := by rw [← nxt_prv c, h, nxt_prv]

/-! ## The buffers the call works in, chunk by chunk and slot by slot -/

/-- The staged partial, the staged result and the receive slots. -/
abbrev pM : Memref sig .tc .vmem S1024x1024 .f32 := Memref.whole cc1_stg0_0
@[inherit_doc pM] abbrev oM : Memref sig .tc .vmem S1024x1024 .f32 := Memref.whole cc1_stg1_0
@[inherit_doc pM] abbrev rM : Memref sig .tc .vmem S31x32x1024 .f32 := Memref.whole cc1_scratch0

theorem chunk_inb (k : Dev nD) : ∀ a, (![32 * k.val, 0] : Fin 2 → ℕ) a + S32x1024.size a ≤ S1024x1024.size a := by
  have := dev_lt k
  intro a; fin_cases a
  · show 32 * k.val + 32 ≤ 1024; omega
  · show 0 + 1024 ≤ 1024; omega
theorem slot_inb (j : Fin 31) : ∀ a, (![j.val, 0, 0] : Fin 3 → ℕ) a + S1x32x1024.size a ≤ S31x32x1024.size a := by
  have := j.isLt
  intro a; fin_cases a
  · show j.val + 1 ≤ 31; omega
  · show 0 + 32 ≤ 32; omega
  · show 0 + 1024 ≤ 1024; omega

/-- Chunk `k` of a 1024 x 1024 array, as a rectangle and as a part of the result's buffer. -/
abbrev chunkR (k : Dev nD) : Rect S1024x1024 := Rect.unit (s := S1024x1024) ![32 * k.val, 0] S32x1024.size (chunk_inb k)
@[inherit_doc chunkR] abbrev oC (k : Dev nD) : Memref sig .tc .vmem S32x1024 .f32 := oM.slice (chunkR k) (fun _ => rfl)
/-- Receive slot `j`, as a rectangle, as a part of the receive buffer and as the matrix it holds. -/
abbrev slotR (j : Fin 31) : Rect S31x32x1024 := Rect.unit (s := S31x32x1024) ![j.val, 0, 0] S1x32x1024.size (slot_inb j)
@[inherit_doc slotR] abbrev rP (j : Fin 31) : Memref sig .tc .vmem S1x32x1024 .f32 := rM.slice (slotR j) (fun _ => rfl)
@[inherit_doc slotR] abbrev rS (j : Fin 31) : Memref sig .tc .vmem S32x1024 .f32 := (rP j).squeeze S32x1024 squeezes_S1x32x1024_S32x1024

/-! ## The cells -/

theorem sem_inb (j : Fin 31) : ∀ a, (![j.val] : Fin 1 → ℕ) a + S1.size a ≤ S31.size a := by
  have := j.isLt
  intro a; fin_cases a
  show j.val + 1 ≤ 31; omega

abbrev barS : Sem sig := (SemArray.scalar (sig.barrier 0 rfl) : Sems sig S_).sem
abbrev sendS : DmaSem sig := cc1_scratch1.sem
abbrev recvS (j : Fin 31) : DmaSem sig := ((cc1_scratch2.slice (Rect.unit (s := S31) ![j.val] S1.size (sem_inb j))).squeeze S_ squeezes_S1_S_).sem

abbrev barCell (c : Dev nD) : GSem nD τ sig := ((c : Thread nD τ), .reg barS)
abbrev sendCell (c : Dev nD) : GSem nD τ sig := ((c : Thread nD τ), .dma sendS)
abbrev recvCell (c : Dev nD) (j : Fin 31) : GSem nD τ sig := ((c : Thread nD τ), .dma (recvS j))

theorem recvS_val (j : Fin 31) : (recvS j).val = 13 + j.val := by revert j; decide
theorem sendS_val : (sendS).val = 12 := by decide
theorem recvS_inj {i j : Fin 31} (h : recvS i = recvS j) : i = j := by
  have h := congrArg Fin.val h; rw [recvS_val, recvS_val] at h; apply Fin.ext; omega
theorem recvS_ne_send (j : Fin 31) : recvS j ≠ sendS := fun h => by
  have h := congrArg Fin.val h; rw [recvS_val, sendS_val] at h; omega

/-- What a copy of one chunk credits. -/
def N : ℕ := (oC 0).view.dmaCredit
theorem N_pos : 0 < N := View.dmaCredit_pos _ (by decide)
theorem credit_oC (k : Dev nD) : (oC k).view.dmaCredit = N := rfl
theorem credit_rS (j : Fin 31) : (rS j).view.dmaCredit = N := rfl

/-! ## The resource algebra -/

/-- The pipeline library's rounds, and the ring's (a round of the barrier has two payers, told apart by a Boolean). -/
abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## What is held of a view -/

/-- Device `c` holds what the memref names, at the contents `v`; at some contents. -/
def holds (c : Dev nD) {s : Shape} (M : Memref sig .tc .vmem s .f32) (v : s.Idx → Elt F .f32) : sProp 𝕄 :=
  iprop(∃ f : Buf (Elt F) (M.view.loc (c : Thread nD τ)), ⌜M.view.read (Elt F) f = v⌝ ∗ (M.view.loc (c : Thread nD τ) ↦[M.view.set]{fullShare} f))
@[inherit_doc holds] def holdsAny (c : Dev nD) {s : Shape} (M : Memref sig .tc .vmem s .f32) : sProp 𝕄 :=
  iprop(∃ f : Buf (Elt F) (M.view.loc (c : Thread nD τ)), (M.view.loc (c : Thread nD τ) ↦[M.view.set]{fullShare} f))

instance holds_storable (c : Dev nD) {s : Shape} (M : Memref sig .tc .vmem s .f32) (v : s.Idx → Elt F .f32) :
    BI.Storable (upEmb : UEmb _ 𝕄) (holds c M v) := by unfold holds; infer_instance
instance holdsAny_storable (c : Dev nD) {s : Shape} (M : Memref sig .tc .vmem s .f32) :
    BI.Storable (upEmb : UEmb _ 𝕄) (holdsAny (F := F) c M) := by unfold holdsAny; infer_instance

theorem holds_any (c : Dev nD) {s : Shape} (M : Memref sig .tc .vmem s .f32) (v : s.Idx → Elt F .f32) : holds c M v ⊢ (holdsAny c M : sProp 𝕄) := by
  unfold holds holdsAny
  iintro ⟨%f, -, H⟩
  iexists f; iexact H

/-! ## The values on the ring -/

/-- Chunk `k` of an array. -/
def blk (X : S1024x1024.Idx → Elt F .f32) (k : Dev nD) : FVec F S32x1024 .f32 := fun i => X ((chunkR k).emb i)

variable (P : Dev nD → S1024x1024.Idx → Elt F .f32)

/-- What device `c`'s chunk `c - j` holds before reduce-scatter step `j`: the sum of the partial chunks of `c - j`, ..., `c`, the later device's partial added on the left. -/
def ringSum : ℕ → Dev nD → FVec F S32x1024 .f32
  | 0, c => blk (P c) c
  | j + 1, c => addf (blk (P c) (back c (j + 1))) (ringSum j (prv c))

/-- The full chunk `k`: what device `k - 1` has after the last reduce-scatter step. -/
def full (k : Dev nD) : FVec F S32x1024 .f32 := ringSum P 31 (prv k)

/-! ## The schedule -/

/-- Paid to the barrier cell of `c`, round 0, by its right neighbour: the neighbour's receive slots, and that its receive cells stand at round 0. -/
def lendSlots (c : Dev nD) : sProp 𝕄 :=
  bigSep Finset.univ fun j : Fin 31 => iprop(holdsAny (nxt c) (rS j) ∗ reached ER (recvCell (nxt c) j) 0)
/-- Round 1, by its right neighbour: all chunks of the neighbour's result but the one it has, and that its receive cells stand at round 1. -/
def lendChunks (c : Dev nD) : sProp 𝕄 :=
  bigSep Finset.univ fun j : Fin 31 => iprop(holdsAny (nxt c) (oC (back (nxt c) j.val)) ∗ reached ER (recvCell (nxt c) j) 1)

def barPay (c : Dev nD) (r : ℕ) (d : Bool) : sProp 𝕄 :=
  if d then (if r = 0 then lendSlots c else lendChunks c) else iprop(emp)

/-- Paid to receive cell `j` of `c`: round 0, slot `j` with the left neighbour's sum in it, and that the barrier of the device
    whose partial chunk came first in that sum stands at round 1; round 1, the full chunk `c - j`. -/
def recvPay (c : Dev nD) (j : Fin 31) (r : ℕ) : sProp 𝕄 :=
  if r = 0 then iprop(holds c (rS j) (ringSum P j.val (prv c)) ∗ reached ER (barCell (back c (j.val + 1))) 1)
  else holds c (oC (back c j.val)) (full P (back c j.val))

/-- Paid back to the send cell of `c`: the chunk it sent. -/
def sendPay (c : Dev nD) (r : ℕ) : sProp 𝕄 :=
  if r < 31 then holds c (oC (back c r)) (ringSum P r c) else holds c (oC (back (nxt c) (r - 31))) (full P (back (nxt c) (r - 31)))

/-- Two duties on each of the barrier's rounds 0 and 1; one on rounds 0 and 1 of each receive cell; one on each of 62 rounds of the send cell. -/
def sched : Rounds.Schedule (GSem nD τ sig) Bool 𝕄 where
  duties g r :=
    if g.1.2 = .tc then
      match g.2 with
      | .reg s => if s = barS ∧ r < 2 then {true, false} else ∅
      | .dma s => if s = sendS then (if r < 62 then {false} else ∅) else if (13 ≤ s.val ∧ s.val < 44) ∧ r < 2 then {false} else ∅
    else ∅
  unitless _ := False
  amount g _ _ := match g.2 with | .reg _ => 1 | .dma _ => N
  payload g r d :=
    match g.2 with
    | .reg _ => barPay g.1.1 r d
    | .dma s => if s = sendS then sendPay P g.1.1 r else if h : 13 ≤ s.val ∧ s.val < 44 then recvPay P g.1.1 ⟨s.val - 13, by omega⟩ r else iprop(emp)
  amount_pos g _ _ _ := by
    rcases g.2 with s | s
    · exact Nat.one_pos
    · exact N_pos

instance sched_storable (g : GSem nD τ sig) (r : ℕ) (d : Bool) : BI.Storable (upEmb : UEmb _ 𝕄) ((sched (F := F) P).payload g r d) := by
  obtain ⟨t, s | s⟩ := g
  · show BI.Storable upEmb (barPay t.1 r d)
    unfold barPay lendSlots lendChunks
    (repeat' split) <;> infer_instance
  · show BI.Storable upEmb (if s = sendS then sendPay P t.1 r else if h : 13 ≤ s.val ∧ s.val < 44 then recvPay P t.1 ⟨s.val - 13, by omega⟩ r else iprop(emp))
    unfold recvPay sendPay
    (repeat' split) <;> infer_instance

section Tables

variable (c : Dev nD) (j : Fin 31)

theorem recv_range : 13 ≤ (recvS j).val ∧ (recvS j).val < 44 := by rw [recvS_val]; have := j.isLt; omega

theorem duties_bar {r : ℕ} (h : r < 2) : (sched (F := F) P).duties (barCell c) r = {true, false} := by
  dsimp only [sched]; rw [if_pos rfl]; exact if_pos ⟨rfl, h⟩
theorem duties_send {r : ℕ} (h : r < 62) : (sched (F := F) P).duties (sendCell c) r = {false} := by
  dsimp only [sched]; rw [if_pos rfl]; exact (if_pos rfl).trans (if_pos h)
theorem duties_recv {r : ℕ} (h : r < 2) : (sched (F := F) P).duties (recvCell c j) r = {false} := by
  dsimp only [sched]; rw [if_pos rfl]; exact (if_neg (recvS_ne_send j)).trans (if_pos ⟨recv_range j, h⟩)

theorem bar_done : ∀ r, 2 ≤ r → (sched (F := F) P).duties (barCell c) r = ∅ := fun r h => by
  dsimp only [sched]; rw [if_pos rfl]; exact if_neg fun h' => by omega
theorem send_done : ∀ r, 62 ≤ r → (sched (F := F) P).duties (sendCell c) r = ∅ := fun r h => by
  dsimp only [sched]; rw [if_pos rfl]; exact (if_pos rfl).trans (if_neg (by omega))
theorem recv_done : ∀ r, 2 ≤ r → (sched (F := F) P).duties (recvCell c j) r = ∅ := fun r h => by
  dsimp only [sched]; rw [if_pos rfl]; exact (if_neg (recvS_ne_send j)).trans (if_neg fun h' => by omega)

theorem amount_bar (r : ℕ) (d : Bool) : (sched (F := F) P).amount (barCell c) r d = 1 := rfl
theorem amount_send (r : ℕ) (d : Bool) : (sched (F := F) P).amount (sendCell c) r d = N := rfl
theorem amount_recv (r : ℕ) (d : Bool) : (sched (F := F) P).amount (recvCell c j) r d = N := rfl

theorem expect_bar {r : ℕ} (h : r < 2) : (sched (F := F) P).expect (barCell c) r = 2 := by
  unfold Schedule.expect Schedule.amountOf; rw [duties_bar P c h, Finset.sum_pair (by decide), amount_bar, amount_bar]
theorem expect_send {r : ℕ} (h : r < 62) : (sched (F := F) P).expect (sendCell c) r = N := by
  unfold Schedule.expect Schedule.amountOf; rw [duties_send P c h, Finset.sum_singleton, amount_send]
theorem expect_recv {r : ℕ} (h : r < 2) : (sched (F := F) P).expect (recvCell c j) r = N := by
  unfold Schedule.expect Schedule.amountOf; rw [duties_recv P c j h, Finset.sum_singleton, amount_recv]

theorem payload_bar (r : ℕ) (d : Bool) : (sched (F := F) P).payload (barCell c) r d = barPay c r d := rfl
theorem payload_send (r : ℕ) (d : Bool) : (sched (F := F) P).payload (sendCell c) r d = sendPay P c r := by dsimp only [sched]; exact if_pos rfl
theorem payload_recv (r : ℕ) (d : Bool) : (sched (F := F) P).payload (recvCell c j) r d = recvPay P c j r := by
  dsimp only [sched]
  rw [if_neg (recvS_ne_send j), dif_pos (recv_range j)]
  congr 1; apply Fin.ext; show (recvS j).val - 13 = j.val; rw [recvS_val]; omega

theorem rest_bar {r : ℕ} (h : r < 2) : bigSep ((sched (F := F) P).duties (barCell c) r \ ∅) (fun d => (sched (F := F) P).payload (barCell c) r d)
    = iprop(barPay c r true ∗ barPay c r false) := by
  rw [Finset.sdiff_empty, duties_bar P c h, BI.bigSep_insert (by decide), bigSep_singleton]; rfl
theorem rest_send {r : ℕ} (h : r < 62) : bigSep ((sched (F := F) P).duties (sendCell c) r \ ∅) (fun d => (sched (F := F) P).payload (sendCell c) r d) = sendPay P c r := by
  rw [Finset.sdiff_empty, duties_send P c h, bigSep_singleton, payload_send]
theorem rest_recv {r : ℕ} (h : r < 2) : bigSep ((sched (F := F) P).duties (recvCell c j) r \ ∅) (fun d => (sched (F := F) P).payload (recvCell c j) r d) = recvPay P c j r := by
  rw [Finset.sdiff_empty, duties_recv P c j h, bigSep_singleton, payload_recv]

end Tables

/-! ## What a device owes, in the order in which it pays -/

/-- The number of levels: a wait's level is the index its credit is issued at. Barrier round 0 at 1, the receives of
    reduce-scatter step `j` at `2 + j`, barrier round 1 at 33, the receives of all-gather step `j` at `34 + j`; the waits for a
    device's own sends, and the pipeline's, at 0. -/
abbrev NL : ℕ := 65

/-- The payments of reduce-scatter steps `j`, ..., 30, by recursion on the number left; then those of the all-gather's. -/
def rsDue (c : Dev nD) : List (Pay nD τ sig) := (List.finRange 31).map fun j => (recvCell (nxt c) j, 2 + j.val, N)
@[inherit_doc rsDue] def agDue (c : Dev nD) : List (Pay nD τ sig) := (List.finRange 31).map fun j => (recvCell (nxt c) j, 34 + j.val, N)
/-- The payments of a barrier round: to the left neighbour, then to the right one. -/
def barDue (c : Dev nD) (i : ℕ) : List (Pay nD τ sig) := [(barCell (prv c), i, 1), (barCell (nxt c), i, 1)]
def dueL (c : Dev nD) : List (Pay nD τ sig) := barDue c 1 ++ (rsDue c ++ (barDue c 33 ++ agDue c))

/-- What is still to be paid from reduce-scatter step `j` on; from all-gather step `j` on. -/
def rsLeft (c : Dev nD) (j : ℕ) : List (Pay nD τ sig) := (rsDue c).drop j ++ (barDue c 33 ++ agDue c)
@[inherit_doc rsLeft] def agLeft (c : Dev nD) (j : ℕ) : List (Pay nD τ sig) := (agDue c).drop j

theorem rsDue_drop (c : Dev nD) (j : Fin 31) : (rsDue c).drop j.val = (recvCell (nxt c) j, 2 + j.val, N) :: (rsDue c).drop (j.val + 1) := by
  have hl : j.val < (rsDue c).length := by unfold rsDue; rw [List.length_map, List.length_finRange]; exact j.isLt
  rw [List.drop_eq_getElem_cons hl]; congr 1
  simp only [rsDue, List.getElem_map, List.getElem_finRange]; rfl
theorem agDue_drop (c : Dev nD) (j : Fin 31) : (agDue c).drop j.val = (recvCell (nxt c) j, 34 + j.val, N) :: (agDue c).drop (j.val + 1) := by
  have hl : j.val < (agDue c).length := by unfold agDue; rw [List.length_map, List.length_finRange]; exact j.isLt
  rw [List.drop_eq_getElem_cons hl]; congr 1
  simp only [agDue, List.getElem_map, List.getElem_finRange]; rfl

theorem rsLeft_succ (c : Dev nD) (j : Fin 31) : tallyL (rsLeft c j.val) = tallyL (rsLeft c (j.val + 1)) + tallyAt (recvCell (nxt c) j) (2 + j.val) N := by
  unfold rsLeft; rw [rsDue_drop, List.cons_append, tallyL, add_comm]
theorem agLeft_succ (c : Dev nD) (j : Fin 31) : tallyL (agLeft c j.val) = tallyL (agLeft c (j.val + 1)) + tallyAt (recvCell (nxt c) j) (34 + j.val) N := by
  unfold agLeft; rw [agDue_drop, tallyL, add_comm]

theorem mem_rsDrop {c : Dev nD} {j : ℕ} {x : Pay nD τ sig} (h : x ∈ (rsDue c).drop j) : ∃ i : Fin 31, j ≤ i.val ∧ x = (recvCell (nxt c) i, 2 + i.val, N) := by
  obtain ⟨k, hk, rfl⟩ := List.mem_iff_getElem.mp h
  rw [List.length_drop, rsDue, List.length_map, List.length_finRange] at hk
  refine ⟨⟨j + k, by omega⟩, Nat.le_add_right _ _, ?_⟩
  simp only [rsDue, List.getElem_drop, List.getElem_map, List.getElem_finRange]; rfl
theorem mem_agDrop {c : Dev nD} {j : ℕ} {x : Pay nD τ sig} (h : x ∈ (agDue c).drop j) : ∃ i : Fin 31, j ≤ i.val ∧ x = (recvCell (nxt c) i, 34 + i.val, N) := by
  obtain ⟨k, hk, rfl⟩ := List.mem_iff_getElem.mp h
  rw [List.length_drop, agDue, List.length_map, List.length_finRange] at hk
  refine ⟨⟨j + k, by omega⟩, Nat.le_add_right _ _, ?_⟩
  simp only [agDue, List.getElem_drop, List.getElem_map, List.getElem_finRange]; rfl

/-- A payment still due lies on a TensorCore's cell, at an index no smaller than the step's. -/
theorem agLeft_above {c : Dev nD} {j : ℕ} {x : Pay nD τ sig} (h : x ∈ agLeft c j) : x.1.1.2 = .tc ∧ 34 + j ≤ x.2.1 ∧ x.2.1 < NL := by
  obtain ⟨i, hi, rfl⟩ := mem_agDrop h
  have := i.isLt
  exact ⟨rfl, by show 34 + j ≤ 34 + i.val; omega, by show 34 + i.val < 65; omega⟩
theorem barDue_at {c : Dev nD} {i : ℕ} {x : Pay nD τ sig} (h : x ∈ barDue c i) : x.1.1.2 = .tc ∧ x.2.1 = i := by
  rcases List.mem_cons.mp h with rfl | h
  · exact ⟨rfl, rfl⟩
  · obtain rfl := List.mem_singleton.mp h
    exact ⟨rfl, rfl⟩
theorem rsLeft_above {c : Dev nD} {j : ℕ} (hj : j ≤ 31) {x : Pay nD τ sig} (h : x ∈ rsLeft c j) : x.1.1.2 = .tc ∧ 2 + j ≤ x.2.1 ∧ x.2.1 < NL := by
  rcases List.mem_append.mp h with h | h
  · obtain ⟨i, hi, rfl⟩ := mem_rsDrop h
    have := i.isLt
    exact ⟨rfl, by show 2 + j ≤ 2 + i.val; omega, by show 2 + i.val < 65; omega⟩
  rcases List.mem_append.mp h with h | h
  · obtain ⟨h1, h2⟩ := barDue_at h
    exact ⟨h1, by omega, by rw [h2]; decide⟩
  · obtain ⟨h1, h2, h3⟩ := agLeft_above (j := 0) h
    exact ⟨h1, by omega, h3⟩

/-- A wait at an index below all that is still due. -/
theorem mayWait_below {i : ℕ} (c : Dev nD) (sm : SemLoc sig) (l : List (Pay nD τ sig)) (hi : i < NL) (hl : ∀ x ∈ l, x.1.1.2 = .tc ∧ i < x.2.1 ∧ x.2.1 < NL) :
    (levAts (L NL) lv : sProp 𝕄) ⊢ MayWait (c : Thread nD τ) sm i (tallyL l) :=
  mayWait_of hi c sm _ fun g k h => by
    obtain ⟨x, hx, rfl, rfl⟩ := tallyL_pos h
    obtain ⟨h1, h2, h3⟩ := hl x hx
    exact ⟨mem_L' h1 h3, h2⟩

/-! ## The cells and tokens, as one family of one launch -/

/-- The receive cells' semaphores; the duties of a round of them that device `c` pays; those of its send cell. -/
def recvE : Fin 31 ↪ SemLoc sig := ⟨fun j => .dma (recvS j), fun _ _ h => recvS_inj (SemLoc.dma.inj h)⟩
@[inherit_doc recvE] def recvTokE (c : Dev nD) (r : ℕ) : Fin 31 ↪ GSem nD τ sig × ℕ × Bool :=
  ⟨fun j => (recvCell (nxt c) j, r, false), fun _ _ h => recvE.injective (congrArg (fun x : GSem nD τ sig × ℕ × Bool => x.1.2) h)⟩
@[inherit_doc recvE] def sendTokE (c : Dev nD) : ℕ ↪ GSem nD τ sig × ℕ × Bool :=
  ⟨fun r => (sendCell c, r, false), fun _ _ h => congrArg (fun x : GSem nD τ sig × ℕ × Bool => x.2.1) h⟩

/-- The barrier duties device `c` pays. -/
def barToks (c : Dev nD) : Finset (GSem nD τ sig × ℕ × Bool) :=
  {(barCell (prv c), 0, true), (barCell (nxt c), 0, false), (barCell (prv c), 1, true), (barCell (nxt c), 1, false)}

/-- The device that pays a duty. -/
def payer (x : GSem nD τ sig × ℕ × Bool) : Dev nD :=
  match x.1.2 with
  | .reg _ => if x.2.2 then nxt x.1.1.1 else prv x.1.1.1
  | .dma s => if s = sendS then x.1.1.1 else prv x.1.1.1

def fam : Fam nD τ sig Bool 1 where
  bar := .reg barS
  dorm _ := insert (.dma sendS) (Finset.univ.map recvE)
  toks c _ := barToks c ∪ (Finset.univ.map (recvTokE c 0) ∪ (Finset.univ.map (recvTokE c 1) ∪ (Finset.range 62).map (sendTokE c)))
  semKey _ := 0
  hsem _ _ _ := Subsingleton.elim _ _
  hbar _ h := by
    rcases Finset.mem_insert.mp h with h | h
    · cases h
    · obtain ⟨j, -, h⟩ := Finset.mem_map.mp h; cases h
  tokKey x := (payer x, 0)
  htok c j x hx := by
    refine Prod.ext ?_ (Subsingleton.elim _ _)
    show payer x = c
    have hr (r : ℕ) (h : x ∈ Finset.univ.map (recvTokE c r)) : payer x = c := by
      obtain ⟨j, -, rfl⟩ := Finset.mem_map.mp h
      exact (if_neg (recvS_ne_send j)).trans (prv_nxt c)
    rcases Finset.mem_union.mp hx with h | h
    · simp only [barToks, Finset.mem_insert, Finset.mem_singleton] at h
      rcases h with rfl | rfl | rfl | rfl
      · exact nxt_prv c
      · exact prv_nxt c
      · exact nxt_prv c
      · exact prv_nxt c
    rcases Finset.mem_union.mp h with h | h
    · exact hr 0 h
    rcases Finset.mem_union.mp h with h | h
    · exact hr 1 h
    · obtain ⟨r, -, rfl⟩ := Finset.mem_map.mp h
      unfold payer; exact if_pos rfl

theorem send_mem (j : Fin 1) : (.dma sendS : SemLoc sig) ∈ fam.dorm j := Finset.mem_insert_self _ _
theorem recv_mem (j : Fin 1) (i : Fin 31) : (.dma (recvS i) : SemLoc sig) ∈ fam.dorm j :=
  Finset.mem_insert_of_mem (Finset.mem_map.mpr ⟨i, Finset.mem_univ _, rfl⟩)

theorem named (X : sProp 𝕄) : ∃ Y : sProp 𝕄, Y = X := ⟨X, rfl⟩
/-- All cells under their invariants, at names `K`: a name that nothing unfolds to the list of cells. -/
def invs (K : GSem nD τ sig → ℕ) : sProp 𝕄 := Classical.choose (named (F := F) (fam.cellInvs ER (sched P) K))
theorem invs_eq (K : GSem nD τ sig → ℕ) : invs P K = fam.cellInvs ER (sched P) K := Classical.choose_spec (named (F := F) (fam.cellInvs ER (sched P) K))

instance invs_persistent (K : GSem nD τ sig → ℕ) : BI.Persistent (invs P K) := by rw [invs_eq]; infer_instance

theorem inv_bar (K : GSem nD τ sig → ℕ) (c : Dev nD) : invs P K ⊢ cellInv ER (sched P) (K (barCell c)) (barCell c) := by
  rw [invs_eq]; exact fam.cellInvs_bar ER (sched P) K c
theorem inv_send (K : GSem nD τ sig → ℕ) (c : Dev nD) : invs P K ⊢ cellInv ER (sched P) (K (sendCell c)) (sendCell c) := by
  rw [invs_eq]; exact fam.cellInvs_dorm ER (sched P) K c (send_mem 0)
theorem inv_recv (K : GSem nD τ sig → ℕ) (c : Dev nD) (j : Fin 31) : invs P K ⊢ cellInv ER (sched P) (K (recvCell c j)) (recvCell c j) := by
  rw [invs_eq]; exact fam.cellInvs_dorm ER (sched P) K c (recv_mem 0 j)

end Cert.KernelIdeal.Ring
-- ==== Proof.Step.lean ====
/-
  One step of the reduce-scatter and one of the all-gather, at any device and step: what a device holds before and after.
-/
module

public import proofs.«01_k».proof.Proof.Proto
public import Idealize.ShloMosaic.Lib.Tactic
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks Idealize.ShloMosaic.TalkSites
open Cert.KernelIdeal Cert.KernelIdeal.Gen

variable {F : FTy → Type} [FloatOps F]

local notation "𝕄" => MT nD τ sig ℕ (Elt F) ℕ UU ℕ

abbrev 𝒱₀ : Variants := Variants.none

variable (P : Dev nD → S1024x1024.Idx → Elt F .f32)

/-- What holds throughout: the cells' invariants, the levels. -/
abbrev ctx (K : GSem nD τ sig → ℕ) : sProp 𝕄 := iprop(invs P K ∗ levAts (L NL) lv)

/-- What is owed, whatever has been waited for. -/
abbrev owing (c : Dev nD) (l : List (Pay nD τ sig)) : sProp 𝕄 := iprop(∃ W, owes (c : Thread nD τ) (tallyL l) W)

/-- What goes from one reduce-scatter step to the next: the chunk to send next, the position on the send cell, and that the
    barrier of the device whose partial is oldest in that chunk stands at round 1. -/
def rsCur (c : Dev nD) (j : ℕ) : sProp 𝕄 :=
  iprop(holds c (oC (back c j)) (ringSum P j c) ∗ atPos ER (sendCell c) j ∅ 0 ∗ reached ER (sendCell c) j ∗ reached ER (barCell (back c j)) 1)

/-- What step `j` takes besides, and what it leaves. -/
def rsTake (c : Dev nD) (j : Fin 31) : sProp 𝕄 :=
  iprop((holdsAny (nxt c) (rS j) ∗ reached ER (recvCell (nxt c) j) 0) ∗ holds c (oC (back c (j.val + 1))) (blk (P c) (back c (j.val + 1)))
    ∗ dutyTok ER (recvCell (nxt c) j) 0 false ∗ dutyTok ER (sendCell c) j.val false
    ∗ atPos ER (recvCell c j) 0 ∅ 0 ∗ cred (tallyAt (recvCell c j) (2 + j.val) N))
@[inherit_doc rsTake] def rsLeave (c : Dev nD) (j : Fin 31) : sProp 𝕄 :=
  iprop(holdsAny c (oC (back c j.val)) ∗ holdsAny c (rS j) ∗ atPos ER (recvCell c j) 1 ∅ 0 ∗ reached ER (recvCell c j) 1)

/-- The same of the all-gather: no evidence about a barrier is passed on. -/
def agCur (c : Dev nD) (j : ℕ) : sProp 𝕄 :=
  iprop(holds c (oC (back (nxt c) j)) (full P (back (nxt c) j)) ∗ atPos ER (sendCell c) (31 + j) ∅ 0 ∗ reached ER (sendCell c) (31 + j))
@[inherit_doc agCur] def agTake (c : Dev nD) (j : Fin 31) : sProp 𝕄 :=
  iprop((holdsAny (nxt c) (oC (back (nxt c) j.val)) ∗ reached ER (recvCell (nxt c) j) 1)
    ∗ dutyTok ER (recvCell (nxt c) j) 1 false ∗ dutyTok ER (sendCell c) (31 + j.val) false
    ∗ atPos ER (recvCell c j) 1 ∅ 0 ∗ cred (tallyAt (recvCell c j) (34 + j.val) N))
@[inherit_doc agCur] def agLeave (c : Dev nD) (j : Fin 31) : sProp 𝕄 :=
  iprop(holds c (oC (back (nxt c) j.val)) (full P (back (nxt c) j.val)) ∗ atPos ER (recvCell c j) 2 ∅ 0)

/-- A wait for the one copy of a round of a cell, at an index below all that is still due: what the copy pays comes with it. -/
theorem wait_copy (κ : ℕ) (c : Dev nD) {sm : DmaSem sig} {s s' : Shape} {src : Memref sig .tc .vmem s .f32} {dst : Memref sig .tc .vmem s' .f32} {h1 h2}
    (hN : dst.view.dmaCredit = N) {R : ℕ} (hR : (sched P).expect ((c : Thread nD τ), .dma sm) R = N) (i : ℕ) (hi : i < NL)
    {l : List (Pay nD τ sig)} (hl : ∀ x ∈ l, x.1.1.2 = .tc ∧ i < x.2.1 ∧ x.2.1 < NL) {Y : sProp 𝕄}
    (hY : bigSep ((sched P).duties ((c : Thread nD τ), .dma sm) R \ ∅) (fun d => (sched P).payload ((c : Thread nD τ), .dma sm) R d) = Y)
    {k : PUnit → Prog (TpuEff nD τ sig (Elt F) Λ₀ .tc) PUnit} {Q : PUnit → sProp 𝕄} :
    iprop(cellInv ER (sched P) κ ((c : Thread nD τ), .dma sm) ∗ levAts (L NL) lv ∗ cred (tallyAt ((c : Thread nD τ), .dma sm) i N) ∗ owing c l
        ∗ atPos ER ((c : Thread nD τ), .dma sm) R ∅ 0)
      ⊢ iprop(((owing c l ∗ atPos ER ((c : Thread nD τ), .dma sm) (R + 1) ∅ 0 ∗ reached ER ((c : Thread nD τ), .dma sm) (R + 1) ∗ Y)
            -∗ wp frame (wpE (defs₀ (F := F)) 𝒱₀ c none) Set.univ (k ⟨⟩) Q)
          -∗ wp frame (wpE (defs₀ (F := F)) 𝒱₀ c none) Set.univ (.op (.waitDma2 sm src dst h1 h2) k) Q) := by
  subst hY
  unfold owing
  iintro ⟨#HI, #Hlev, Hc, ⟨%W, HO⟩, Hat⟩ Hk
  iapply (Rounds.wp_wait_rest_token 𝒱₀ ER (sched P) (c : Thread nD τ) none (κ := κ) (sm := .dma sm) (k' := N)
      (fun K => (wpE_waitDma2_eq 𝒱₀ (c : Thread nD τ) none Set.univ K).trans (by rw [hN])) (Set.mem_univ _) i (O := tallyL l) (W := W) (R := R) (m := 0) (T := ∅)
      ((Nat.zero_add _).trans hR.symm)) $$ [Hc HO Hat]
  · isplitr; · iexact HI
    isplitl [Hc]; · iexact Hc
    isplitl [HO]; · iexact HO
    isplitr; · iapply (mayWait_below c (.dma sm) l hi hl); iexact Hlev
    iexact Hat
  iintro ⟨HO, Hat, #Hr, Hpay⟩
  iapply Hk
  isplitl [HO]; · iexists _; iexact HO
  isplitl [Hat]; · iexact Hat
  isplitr; · iexact Hr
  iexact Hpay

/-- The all-gather step, whatever memory operands and offsets spell it. -/
theorem ag_step (K : GSem nD τ sig → ℕ) (c : Dev nD) (j : Fin 31) {n : Dev nD} (hn : n = nxt c)
    {o : Fin 2 → ℕ} (ho : o = ![32 * (back (nxt c) j.val).val, 0]) {hi : ∀ a, o a + S32x1024.size a ≤ S1024x1024.size a}
    {q : Fin 1 → ℕ} (hq : q = ![j.val]) {hqi : ∀ a, q a + S1.size a ≤ S31.size a}
    {hw1 hw2} {hT} {hw3 hw4 hw5 hw6}
    {k : PUnit → Prog (TpuEff nD τ sig (Elt F) Λ₀ .tc) PUnit} {Q : PUnit → sProp 𝕄} :
    iprop(ctx P K ∗ agCur P c j.val ∗ agTake (F := F) c j ∗ owing c (agLeft c j.val)
        ∗ ((agLeave P c j ∗ agCur P c (j.val + 1) ∗ owing c (agLeft c (j.val + 1))) -∗ wp frame (wpE (defs₀ (F := F)) 𝒱₀ c none) Set.univ (k ⟨⟩) Q))
      ⊢ wp frame (wpE (defs₀ (F := F)) 𝒱₀ c none) Set.univ
        (.op (.enqueueDma (oM.slice (Rect.unit (s := S1024x1024) o S32x1024.size hi) (fun _ => rfl))
            (.remote (Dev.tc n) (oM.slice (Rect.unit (s := S1024x1024) o S32x1024.size hi) (fun _ => rfl)) (.dma cc1_scratch1.sem))
            (.dma ((cc1_scratch2.slice (Rect.unit (s := S31) q S1.size hqi)).squeeze S_ squeezes_S1_S_).sem) hw1 hw2 hT) fun _ =>
          .op (.waitDma2 cc1_scratch1.sem (oM.slice (Rect.unit (s := S1024x1024) o S32x1024.size hi) (fun _ => rfl))
            (oM.slice (Rect.unit (s := S1024x1024) o S32x1024.size hi) (fun _ => rfl)) hw3 hw4) fun _ =>
          .op (.waitDma2 ((cc1_scratch2.slice (Rect.unit (s := S31) q S1.size hqi)).squeeze S_ squeezes_S1_S_).sem
            (oM.slice (Rect.unit (s := S1024x1024) o S32x1024.size hi) (fun _ => rfl))
            (oM.slice (Rect.unit (s := S1024x1024) o S32x1024.size hi) (fun _ => rfl)) hw5 hw6) k) Q := by
  subst hn ho hq
  have hj := j.isLt
  have hbn : back (nxt c) (j.val + 1) = back c j.val := back_nxt c (by omega)
  unfold agCur agTake owing
  iintro ⟨⟨#HI, #Hlev⟩, ⟨Ho, HatS, #HrS⟩, ⟨⟨Hd, #HrV⟩, HtV, HtS, HatV, HcV⟩, ⟨%W, HO⟩, Hk⟩
  ihave #HIs := (inv_send P K c) $$ HI
  ihave #HIr := (inv_recv P K c j) $$ HI
  ihave #HIn := (inv_recv P K (nxt c) j) $$ HI
  unfold holds holdsAny
  icases Ho with ⟨%fs, %hfs, Ho⟩
  icases Hd with ⟨%fd, Hd⟩
  iapply (Rounds.wp_send_pointsTo 𝒱₀ ER (sched P) (c : Thread nD τ) none (c' := (nxt c : Thread nD τ)) (src := oC (back (nxt c) j.val)) (dst := oC (back (nxt c) j.val))
      (sS := .dma sendS) (sem := .dma (recvS j)) (q := fullShare) (fs := fs) (κ₁ := K (sendCell c)) (κ₂ := K (recvCell (nxt c) j))
      (r₁ := 31 + j.val) (r₂ := 1) (d₁ := false) (d₂ := false) (fd := fd)
      (by rw [duties_send P c (by omega)]; exact Finset.mem_singleton_self _) (by rw [duties_recv P _ j (by decide)]; exact Finset.mem_singleton_self _)
      (34 + j.val) 0 N (credit_oC _) (amount_send P c _ _) (amount_recv P _ j _ _) (tallyL (agLeft c (j.val + 1))) (agLeft_succ c j) (W := W)
      (by
        rw [payload_send]; unfold sendPay; rw [if_neg (by omega), Nat.add_sub_cancel_left]; unfold holds
        iintro H; iexists fs; isplitr; · ipureintro; exact hfs
        iexact H)
      (by
        rw [payload_recv]; unfold recvPay; rw [if_neg (by decide)]; unfold holds
        iintro H; iexists _; isplitr; swap; · iexact H
        ipureintro; rw [View.read_write_univ]; exact hfs)) $$ [Ho Hd HO HtS HtV]
  · isplitr; · iexact HIs
    isplitr; · iexact HIn
    isplitl [Ho]; · iexact Ho
    isplitl [Hd]; · iexact Hd
    isplitl [HO]; · iexact HO
    isplitl [HtS]; · iexact HtS
    isplitr; · iexact HrS
    isplitl [HtV]; · iexact HtV
    iexact HrV
  iintro ⟨HcS, HO⟩
  iapply (wait_copy P (K (sendCell c)) c (R := 31 + j.val) (credit_oC _) (expect_send P c (by omega)) 0 (by decide) (l := agLeft c (j.val + 1))
      (fun x hx => by obtain ⟨h1, h2, h3⟩ := agLeft_above hx; exact ⟨h1, by omega, h3⟩)
      ((rest_send P c (by omega)).trans (by unfold sendPay; rw [if_neg (by omega), Nat.add_sub_cancel_left]))) $$ [HcS HO HatS]
  · isplitr; · iexact HIs
    isplitr; · iexact Hlev
    isplitl [HcS]; · iexact HcS
    isplitl [HO]; · iexists W; iexact HO
    iexact HatS
  iintro ⟨HO, HatS, #HrS1, Ho⟩
  iapply (wait_copy P (K (recvCell c j)) c (R := 1) (credit_oC _) (expect_recv P c j (by decide)) (34 + j.val) (by show 34 + j.val < 65; omega) (l := agLeft c (j.val + 1))
      (fun x hx => by obtain ⟨h1, h2, h3⟩ := agLeft_above hx; exact ⟨h1, by omega, h3⟩)
      ((rest_recv P c j (by decide)).trans (by unfold recvPay; rw [if_neg (by decide), ← hbn]))) $$ [HcV HO HatV]
  · isplitr; · iexact HIr
    isplitr; · iexact Hlev
    isplitl [HcV]; · iexact HcV
    isplitl [HO]; · iexact HO
    iexact HatV
  iintro ⟨HO, HatV, -, Hn⟩
  iapply Hk
  unfold agLeave holds
  isplitl [Ho HatV]
  · isplitl [Ho]; · iexact Ho
    iexact HatV
  isplitl [Hn HatS]
  · isplitl [Hn]; · iexact Hn
    isplitl [HatS]; · iexact HatS
    iexact HrS1
  iexact HO

/-- The sum a reduce-scatter step stores, from the chunk and the slot it loads. -/
theorem pay_eq (x : Vec F S32x1024 .f32) (y : Vec F S1x32x1024 .f32) : k1_pay2 x y = addf x (shapeCast S32x1024 y shapeCasts_S1x32x1024_S32x1024) := by
  show addf (shapeCast S32x1024 x shapeCasts_S32x1024_S32x1024) _ = _
  rw [shapeCast_self]

/-- The reduce-scatter step, whatever memory operands and offsets spell it. -/
theorem rs_step (K : GSem nD τ sig → ℕ) (c : Dev nD) (j : Fin 31) {n : Dev nD} (hn : n = nxt c)
    {o : Fin 2 → ℕ} (ho : o = ![32 * (back c j.val).val, 0]) {hi : ∀ a, o a + S32x1024.size a ≤ S1024x1024.size a}
    {o' : Fin 2 → ℕ} (ho' : o' = ![32 * (back c (j.val + 1)).val, 0]) {hi' : ∀ a, o' a + S32x1024.size a ≤ S1024x1024.size a}
    {p : Fin 3 → ℕ} (hp : p = ![j.val, 0, 0]) {hpi : ∀ a, p a + S1x32x1024.size a ≤ S31x32x1024.size a}
    {q : Fin 1 → ℕ} (hq : q = ![j.val]) {hqi : ∀ a, q a + S1.size a ≤ S31.size a}
    {pay : Vec F S32x1024 .f32 → Vec F S1x32x1024 .f32 → FVec F S32x1024 .f32} (hpay : pay = k1_pay2)
    {hw1 hw2} {hT} {hw3 hw4 hw5 hw6} {hl1 hl2 hl3} {hs1 hs2}
    {k : PUnit → Prog (TpuEff nD τ sig (Elt F) Λ₀ .tc) PUnit} {Q : PUnit → sProp 𝕄} :
    iprop(ctx P K ∗ rsCur P c j.val ∗ rsTake P c j ∗ owing c (rsLeft c j.val)
        ∗ ((rsLeave (F := F) c j ∗ rsCur P c (j.val + 1) ∗ owing c (rsLeft c (j.val + 1))) -∗ wp frame (wpE (defs₀ (F := F)) 𝒱₀ c none) Set.univ (k ⟨⟩) Q))
      ⊢ wp frame (wpE (defs₀ (F := F)) 𝒱₀ c none) Set.univ
        (.op (.enqueueDma (oM.slice (Rect.unit (s := S1024x1024) o S32x1024.size hi) (fun _ => rfl))
            (.remote (Dev.tc n) ((rM.slice (Rect.unit (s := S31x32x1024) p S1x32x1024.size hpi) (fun _ => rfl)).squeeze S32x1024 squeezes_S1x32x1024_S32x1024) (.dma cc1_scratch1.sem))
            (.dma ((cc1_scratch2.slice (Rect.unit (s := S31) q S1.size hqi)).squeeze S_ squeezes_S1_S_).sem) hw1 hw2 hT) fun _ =>
          .op (.waitDma2 cc1_scratch1.sem ((rM.slice (Rect.unit (s := S31x32x1024) p S1x32x1024.size hpi) (fun _ => rfl)).squeeze S32x1024 squeezes_S1x32x1024_S32x1024)
            (oM.slice (Rect.unit (s := S1024x1024) o S32x1024.size hi) (fun _ => rfl)) hw3 hw4) fun _ =>
          .op (.waitDma2 ((cc1_scratch2.slice (Rect.unit (s := S31) q S1.size hqi)).squeeze S_ squeezes_S1_S_).sem
            (oM.slice (Rect.unit (s := S1024x1024) o S32x1024.size hi) (fun _ => rfl))
            ((rM.slice (Rect.unit (s := S31x32x1024) p S1x32x1024.size hpi) (fun _ => rfl)).squeeze S32x1024 squeezes_S1x32x1024_S32x1024) hw5 hw6) fun _ =>
          .op (.load oM (Rect.unit (s := S1024x1024) o' S32x1024.size hi').toLoadRect hl1) fun x =>
          .op (.load rM (Rect.unit (s := S31x32x1024) p S1x32x1024.size hpi).toLoadRect hl2) fun y =>
          .op (.load oM (Rect.unit (s := S1024x1024) o' S32x1024.size hi').toLoadRect hl3) fun _ =>
          .op (.store oM (Rect.unit (s := S1024x1024) o' S32x1024.size hi') (pay x y) Finset.univ hs1 hs2) k) Q := by
  subst hn ho ho' hp hq hpay
  have hj := j.isLt
  have hbn : back (nxt c) (j.val + 1) = back c j.val := back_nxt c (by omega)
  unfold rsCur rsTake owing
  iintro ⟨⟨#HI, #Hlev⟩, ⟨Ho, HatS, #HrS, #HrB⟩, ⟨⟨Hd, #HrV⟩, Hq, HtV, HtS, HatV, HcV⟩, ⟨%W, HO⟩, Hk⟩
  ihave #HIs := (inv_send P K c) $$ HI
  ihave #HIr := (inv_recv P K c j) $$ HI
  ihave #HIn := (inv_recv P K (nxt c) j) $$ HI
  unfold holds holdsAny
  icases Ho with ⟨%fs, %hfs, Ho⟩
  icases Hd with ⟨%fd, Hd⟩
  iapply (Rounds.wp_send_pointsTo_with 𝒱₀ ER (sched P) (c : Thread nD τ) none (c' := (nxt c : Thread nD τ)) (src := oC (back c j.val)) (dst := rS j)
      (sS := .dma sendS) (sem := .dma (recvS j)) (q := fullShare) (fs := fs) (κ₁ := K (sendCell c)) (κ₂ := K (recvCell (nxt c) j))
      (r₁ := j.val) (r₂ := 0) (d₁ := false) (d₂ := false) (fd := fd) (F := reached ER (barCell (back c j.val)) 1)
      (by rw [duties_send P c (by omega)]; exact Finset.mem_singleton_self _) (by rw [duties_recv P _ j (by decide)]; exact Finset.mem_singleton_self _)
      (2 + j.val) 0 N (credit_rS j) (amount_send P c _ _) (amount_recv P _ j _ _) (tallyL (rsLeft c (j.val + 1))) (rsLeft_succ c j) (W := W)
      (by
        rw [payload_send]; unfold sendPay; rw [if_pos (by omega)]; unfold holds
        iintro H; iexists fs; isplitr; · ipureintro; exact hfs
        iexact H)
      (by
        rw [payload_recv]; unfold recvPay; rw [if_pos rfl, prv_nxt, hbn]; unfold holds
        iintro ⟨H, Hr⟩
        isplitr [Hr]; swap; · iexact Hr
        iexists _; isplitr; swap; · iexact H
        ipureintro; rw [View.read_write_univ]; exact hfs)) $$ [Ho Hd HO HtS HtV]
  · isplitr; · iexact HIs
    isplitr; · iexact HIn
    isplitl [Ho]; · iexact Ho
    isplitl [Hd]
    · isplitl [Hd]; · iexact Hd
      iexact HrB
    isplitl [HO]; · iexact HO
    isplitl [HtS]; · iexact HtS
    isplitr; · iexact HrS
    isplitl [HtV]; · iexact HtV
    iexact HrV
  iintro ⟨HcS, HO⟩
  iapply (wait_copy P (K (sendCell c)) c (R := j.val) (credit_oC _) (expect_send P c (by omega)) 0 (by decide) (l := rsLeft c (j.val + 1))
      (fun x hx => by obtain ⟨h1, h2, h3⟩ := rsLeft_above (by omega) hx; exact ⟨h1, by omega, h3⟩)
      ((rest_send P c (by omega)).trans (by unfold sendPay; rw [if_pos (by omega)]))) $$ [HcS HO HatS]
  · isplitr; · iexact HIs
    isplitr; · iexact Hlev
    isplitl [HcS]; · iexact HcS
    isplitl [HO]; · iexists W; iexact HO
    iexact HatS
  iintro ⟨HO, HatS, #HrS1, Ho⟩
  iapply (wait_copy P (K (recvCell c j)) c (R := 0) (credit_rS j) (expect_recv P c j (by decide)) (2 + j.val) (by show 2 + j.val < 65; omega) (l := rsLeft c (j.val + 1))
      (fun x hx => by obtain ⟨h1, h2, h3⟩ := rsLeft_above (by omega) hx; exact ⟨h1, by omega, h3⟩)
      ((rest_recv P c j (by decide)).trans (by unfold recvPay holds; rw [if_pos rfl]))) $$ [HcV HO HatV]
  · isplitr; · iexact HIr
    isplitr; · iexact Hlev
    isplitl [HcV]; · iexact HcV
    isplitl [HO]; · iexact HO
    iexact HatV
  iintro ⟨HO, HatV, #HrV1, ⟨⟨%fr, %hfr, Hr⟩, #HrB1⟩⟩
  icases Hq with ⟨%fq, %hfq, Hq⟩
  iapply (wp_load_rect 𝒱₀ (c : Thread nD τ) none Set.univ (m := oM) (r := chunkR (back c (j.val + 1))) subset_rfl) $$ Hq; iintro Hq
  iapply (wp_load_rect 𝒱₀ (c : Thread nD τ) none Set.univ (m := rM) (r := slotR j) (by rw [View.set_reshape])) $$ Hr; iintro Hr
  iapply (wp_load_rect 𝒱₀ (c : Thread nD τ) none Set.univ (m := oM) (r := chunkR (back c (j.val + 1))) subset_rfl) $$ Hq; iintro Hq
  iapply (wp_store 𝒱₀ (c : Thread nD τ) none Set.univ (m := oM) (r := chunkR (back c (j.val + 1))) (Mk := Finset.univ) (S := (oC (back c (j.val + 1))).view.set) subset_rfl) $$ Hq; iintro Hq
  ihave Ho := (holds_any c (oC (back c j.val)) _) $$ Ho
  iapply Hk
  unfold rsLeave holdsAny
  isplitl [Ho Hr HatV]
  · isplitl [Ho]
    · iexact Ho
    isplitl [Hr]; · iexists _; iexact Hr
    isplitl [HatV]; · iexact HatV
    iexact HrV1
  isplitl [Hq HatS]
  · isplitl [Hq]
    · iexists _
      isplitr; swap; · iexact Hq
      ipureintro
      refine (View.read_write_univ _ _).trans ?_
      rw [pay_eq]
      exact congrArg₂ addf hfq hfr
    isplitl [HatS]; · iexact HatS
    isplitr; · iexact HrS1
    iexact HrB1
  iexact HO

end Cert.KernelIdeal.Ring
-- ==== Proof.Attn.lean ====
/-
  The attention call: its eight grid points, one head each, and what they leave in the partial result — the first head's
  contribution stored, each later one added.
-/
module

public import proofs.«01_k».proof.Proof.Step
public import proofs.«01_k».proof.Proof.Gen.KernelIdeal.Points
public import Idealize.ShloMosaic.Lib.Pipeline.FrameBody
public import Idealize.ShloMosaic.Lib.VecWindow

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.TalkSites
open Cert.KernelIdeal Cert.KernelIdeal.Gen

variable {F : FTy → Type} [FloatOps F]

local notation "𝕄" => MT nD τ sig ℕ (Elt F) ℕ UU ℕ

/-! ## Whole loads and stores -/

/-- A load of a memref's own sizes reads what is owned of it. -/
theorem load_all (c : Dev nD) {s : Shape} {M : Memref sig .tc .vmem s .f32} {off : Fin s.rank → ℕ} {inb : ∀ a, off a + s.size a ≤ s.size a} {hl}
    {k : (s.Idx → Elt F .f32) → Prog (TpuEff nD τ sig (Elt F) Λ₀ .tc) PUnit} {X : s.Idx → Elt F .f32} {Q : PUnit → sProp 𝕄} :
    iprop(owns (c : Thread nD τ) M fullShare X ∗ (owns (c : Thread nD τ) M fullShare X -∗ wp frame (wpE (defs₀ (F := F)) 𝒱₀ c none) Set.univ (k X) Q))
      ⊢ wp frame (wpE (defs₀ (F := F)) 𝒱₀ c none) Set.univ (.op (.load M (Rect.unit (s := s) off s.size inb).toLoadRect hl) k) Q := by
  unfold owns
  iintro ⟨⟨%f, %hf, H⟩, HK⟩
  iapply (wp_load_rect 𝒱₀ (c : Thread nD τ) none Set.univ (m := M) (r := Rect.unit (s := s) off s.size inb) (S := M.view.set)
    (View.set_slice_subset _ _)) $$ H
  iintro H
  rw [show (M.access (Rect.unit (s := s) off s.size inb)).read (Elt F) f = X from (View.readAt_full M.view f inb).trans hf]
  iapply HK
  iexists f
  isplitr; · ipureintro; exact hf
  iexact H

/-- A store of a memref's own sizes leaves its payload. -/
theorem store_all (c : Dev nD) {s : Shape} {M : Memref sig .tc .vmem s .f32} {off : Fin s.rank → ℕ} {inb : ∀ a, off a + s.size a ≤ s.size a} {hx hm}
    {w : s.Idx → Elt F .f32} {k : PUnit → Prog (TpuEff nD τ sig (Elt F) Λ₀ .tc) PUnit} {X : s.Idx → Elt F .f32} {Q : PUnit → sProp 𝕄} :
    iprop(owns (c : Thread nD τ) M fullShare X ∗ (owns (c : Thread nD τ) M fullShare w -∗ wp frame (wpE (defs₀ (F := F)) 𝒱₀ c none) Set.univ (k ⟨⟩) Q))
      ⊢ wp frame (wpE (defs₀ (F := F)) 𝒱₀ c none) Set.univ (.op (.store M (Rect.unit (s := s) off s.size inb) w Finset.univ hx hm) k) Q := by
  unfold owns
  iintro ⟨⟨%f, %hf, H⟩, HK⟩
  iapply (wp_store_writes₀ 𝒱₀ (c : Thread nD τ) none Set.univ (m := M) (r := Rect.unit (s := s) off s.size inb) (w := w) (S := M.view.set) (f := f)
    (View.set_slice_subset _ _)) $$ H
  iintro H
  iapply HK
  iexists _
  isplitr; swap; · iexact H
  ipureintro
  exact View.read_writes_full M.view f inb w []

/-! ## One head -/

/-- What a grid point adds: the head's attention of the queries of `x` to the keys and values, through the head's rows of the
    output projection. -/
def contrib (x : S1x1024x1024.Idx → Elt F .f32) (q k v : S1024x128.Idx → Elt F .f32) (o : S128x1024.Idx → Elt F .f32) : S1024x1024.Idx → Elt F .f32 :=
  k0_pay6 (k0_pay2 x q k) k0_pay3 (iota .tc S1024x1024 32 [1] iota_S1024x1024_d1_w32) 64#32 k0_pay4 k0_pay5 v o

theorem first_iff : ∀ t : Fin grid0.N, k0_cond1 (grid0.coords t) = 1#1 ↔ t.val = 0 := by decide +kernel
theorem later_iff : ∀ t : Fin grid0.N, k0_cond2 (grid0.coords t) = 1#1 ↔ t.val ≠ 0 := by decide +kernel

variable (c : Dev nD) (i : grid0.Coords) {a1 : Memref sig .tc .vmem S1x1024x1024 .f32} {h1 : a1.IsWhole} {a2 : Memref sig .tc .vmem S1024x128 .f32} {h2 : a2.IsWhole}
  {a3 : Memref sig .tc .vmem S1024x128 .f32} {h3 : a3.IsWhole} {a4 : Memref sig .tc .vmem S1024x128 .f32} {h4 : a4.IsWhole}
  {a5 : Memref sig .tc .vmem S128x1024 .f32} {h5 : a5.IsWhole} {a6 : Memref sig .tc .vmem S1024x1024 .f32} {h6 : a6.IsWhole}
  (x : S1x1024x1024.Idx → Elt F .f32) (q k v : S1024x128.Idx → Elt F .f32) (o : S128x1024.Idx → Elt F .f32) (s : S1024x1024.Idx → Elt F .f32)
  (Q : PUnit → sProp (MT nD τ sig ℕ (Elt F) ℕ UU ℕ))

/-- The six buffers at one point. -/
def headAt (c : Dev nD) (a1 : Memref sig .tc .vmem S1x1024x1024 .f32) (a2 a3 a4 : Memref sig .tc .vmem S1024x128 .f32) (a5 : Memref sig .tc .vmem S128x1024 .f32)
    (a6 : Memref sig .tc .vmem S1024x1024 .f32) (x : S1x1024x1024.Idx → Elt F .f32) (q k v : S1024x128.Idx → Elt F .f32)
    (o : S128x1024.Idx → Elt F .f32) (s : S1024x1024.Idx → Elt F .f32) : sProp 𝕄 :=
  iprop(owns (c : Thread nD τ) a1 fullShare x ∗ owns (c : Thread nD τ) a2 fullShare q ∗ owns (c : Thread nD τ) a3 fullShare k ∗ owns (c : Thread nD τ) a4 fullShare v
    ∗ owns (c : Thread nD τ) a5 fullShare o ∗ owns (c : Thread nD τ) a6 fullShare s)

theorem first_head (hc1 : k0_cond1 i = 1#1) (hc2 : ¬ k0_cond2 i = 1#1) :
    iprop(headAt c a1 a2 a3 a4 a5 a6 x q k v o s ∗ (headAt c a1 a2 a3 a4 a5 a6 x q k v o (contrib x q k v o) -∗ Q ⟨⟩))
      ⊢ wp frame (wpE (defs₀ (F := F)) 𝒱₀ c none) Set.univ (cc0__attn_body i a1 h1 a2 h2 a3 h3 a4 h4 a5 h5 a6 h6) Q := by
  simp only [cc0__attn_body_eq_skeleton, cc0__attn_body_skel, k0_part1_eq_skeleton, k0_part1_skel, k0_part2_eq_skeleton, k0_part2_skel,
    dif_pos hc1, dif_neg hc2, Prog.bind_op, Prog.bind_ret, Prog.lift, Prog.pure_eq_ret]
  unfold headAt
  iintro ⟨⟨H1, H2, H3, H4, H5, H6⟩, HK⟩
  iapply (load_all c); isplitl [H1]; · iexact H1
  iintro H1
  iapply (load_all c); isplitl [H2]; · iexact H2
  iintro H2
  iapply (load_all c); isplitl [H3]; · iexact H3
  iintro H3
  iapply (load_all c); isplitl [H4]; · iexact H4
  iintro H4
  iapply (load_all c); isplitl [H5]; · iexact H5
  iintro H5
  iapply (load_all c); isplitl [H6]; · iexact H6
  iintro H6
  iapply (store_all c); isplitl [H6]; · iexact H6
  iintro H6
  sl_step
  iapply HK
  isplitl [H1]; · iexact H1
  isplitl [H2]; · iexact H2
  isplitl [H3]; · iexact H3
  isplitl [H4]; · iexact H4
  isplitl [H5]; · iexact H5
  iexact H6

theorem later_head (hc1 : ¬ k0_cond1 i = 1#1) (hc2 : k0_cond2 i = 1#1) :
    iprop(headAt c a1 a2 a3 a4 a5 a6 x q k v o s ∗ (headAt c a1 a2 a3 a4 a5 a6 x q k v o (k0_pay1 (contrib x q k v o) s) -∗ Q ⟨⟩))
      ⊢ wp frame (wpE (defs₀ (F := F)) 𝒱₀ c none) Set.univ (cc0__attn_body i a1 h1 a2 h2 a3 h3 a4 h4 a5 h5 a6 h6) Q := by
  simp only [cc0__attn_body_eq_skeleton, cc0__attn_body_skel, k0_part1_eq_skeleton, k0_part1_skel, k0_part2_eq_skeleton, k0_part2_skel,
    dif_neg hc1, dif_pos hc2, Prog.bind_op, Prog.bind_ret, Prog.lift, Prog.pure_eq_ret]
  unfold headAt
  iintro ⟨⟨H1, H2, H3, H4, H5, H6⟩, HK⟩
  iapply (load_all c); isplitl [H1]; · iexact H1
  iintro H1
  iapply (load_all c); isplitl [H2]; · iexact H2
  iintro H2
  iapply (load_all c); isplitl [H3]; · iexact H3
  iintro H3
  iapply (load_all c); isplitl [H4]; · iexact H4
  iintro H4
  iapply (load_all c); isplitl [H5]; · iexact H5
  iintro H5
  iapply (load_all c); isplitl [H6]; · iexact H6
  iintro H6
  iapply (load_all c); isplitl [H6]; · iexact H6
  iintro H6
  iapply (store_all c); isplitl [H6]; · iexact H6
  iintro H6
  sl_step
  iapply HK
  isplitl [H1]; · iexact H1
  isplitl [H2]; · iexact H2
  isplitl [H3]; · iexact H3
  isplitl [H4]; · iexact H4
  isplitl [H5]; · iexact H5
  iexact H6

/-! ## The proof data of the call -/

/-- The call's arrays at a valuation, and the blocks of them at a point. -/
def arr0 (V : Valuation τ sig (Elt F)) (w : Fin cfg0.W) : Buf (Elt F) ((cfg0.win w).arr.view.loc (c : Thread nD τ)) :=
  V (Proc.devRef .tc (arrRef spec0 w))
@[inherit_doc arr0] def blk0 (V : Valuation τ sig (Elt F)) (w : Fin cfg0.W) (t : Fin cfg0.N) : ((cfg0.win w).xblock (cfg0.grid.coords t)).Idx → Elt F (cfg0.win w).elt :=
  ((cfg0.win w).blk t).view.read (Elt F) (arr0 c V w)

/-- Grid point `n`. -/
def pt (n : ℕ) : Fin cfg0.N := ⟨n % 8, by rw [show cfg0.N = 8 from N_0]; omega⟩
theorem pt_val (t : Fin cfg0.N) : pt t.val = t := Fin.ext (Nat.mod_eq_of_lt (lt_of_lt_of_eq t.isLt N_0))

/-- The contribution of point `n`, and the partial result after it. -/
def part (V : Valuation τ sig (Elt F)) (n : ℕ) : S1024x1024.Idx → Elt F .f32 :=
  contrib (blk0 c V 0 (pt n)) (blk0 c V 1 (pt n)) (blk0 c V 2 (pt n)) (blk0 c V 3 (pt n)) (blk0 c V 4 (pt n))
@[inherit_doc part] def acc (V : Valuation τ sig (Elt F)) : ℕ → S1024x1024.Idx → Elt F .f32
  | 0 => part c V 0
  | n + 1 => k0_pay1 (part c V (n + 1)) (acc V n)

/-- Nothing of the ring is touched here: the scoped buffers of the other call and the debts ride along. -/
def dat0 (V : Valuation τ sig (Elt F)) : Dat τ (Elt F) ℕ ℕ UU ℕ cfg0 c where
  A w := arr0 c V w
  after w t := match w with
    | 0 => blk0 c V 0 t
    | 1 => blk0 c V 1 t
    | 2 => blk0 c V 2 t
    | 3 => blk0 c V 3 t
    | 4 => blk0 c V 4 t
    | 5 => acc c V t.val
    | ⟨_ + 6, h⟩ => absurd h (Nat.not_lt.2 (Nat.le_add_left _ _))
  Φ _ := Pipeline.scopedRest spec0 c
  q _ := fullShare
  owed _ := tallyL (dueL c)

variable (V : Valuation τ sig (Elt F)) (t : Fin cfg0.N)

theorem after0_5 : (dat0 c V).after 5 t = acc c V t.val := by dsimp only [dat0]

theorem before0_0 (d) : (dat0 c V).before 0 t d = blk0 c V 0 t :=
  (dat0 c V).before_in_eq_fetched 0 rfl (fun _ => rfl) (fun _ _ _ => rfl) (fun _ => rfl) t d
theorem before0_1 (d) : (dat0 c V).before 1 t d = blk0 c V 1 t :=
  (dat0 c V).before_in_eq_fetched 1 rfl (fun _ => rfl) (fun _ _ _ => rfl) (fun _ => rfl) t d
theorem before0_2 (d) : (dat0 c V).before 2 t d = blk0 c V 2 t :=
  (dat0 c V).before_in_eq_fetched 2 rfl (fun _ => rfl) (fun _ _ _ => rfl) (fun _ => rfl) t d
theorem before0_3 (d) : (dat0 c V).before 3 t d = blk0 c V 3 t :=
  (dat0 c V).before_in_eq_fetched 3 rfl (fun _ => rfl) (fun _ _ _ => rfl) (fun _ => rfl) t d
theorem before0_4 (d) : (dat0 c V).before 4 t d = blk0 c V 4 t :=
  (dat0 c V).before_in_eq_fetched 4 rfl (fun _ => rfl) (fun _ _ _ => rfl) (fun _ => rfl) t d

theorem live5 : ∀ i : grid0.Coords, idle0 5 i = false := by decide +kernel

theorem before0_5 (ht : t.val ≠ 0) (d) : (dat0 c V).before 5 t d = acc c V (t.val - 1) := by
  rw [(dat0 c V).before_out_kept 5 rfl t ht (by
    rw [Bool.eq_false_iff]; intro h
    have := (flush0_5 _).mp h
    have h8 : t.val < 8 := lt_of_lt_of_eq t.isLt N_0
    dsimp only at this; omega) live5 (fun _ _ => rfl) d]
  exact after0_5 c V _

theorem acc_later (ht : t.val ≠ 0) : acc c V t.val = k0_pay1 (part c V t.val) (acc c V (t.val - 1)) := by
  obtain ⟨n, hn⟩ := Nat.exists_eq_succ_of_ne_zero ht
  rw [hn]; rfl

theorem defs₀_row0 (t : Fin cfg0.N) : defs₀ (F := F) .tc cfg0.body (cfg0.bodyArgs t (cfg0.slots t)) = bodyAt0 t := by
  unfold defs₀; rw [Defs.onTc_tc]

/-- One point, its buffers as the call hands them over and takes them back. -/
theorem point (d : S1024x1024.Idx → Elt F .f32) (Q : PUnit → sProp 𝕄) :
    iprop(headAt c (st0_0 t) (st0_1 t) (st0_2 t) (st0_3 t) (st0_4 t) (st0_5 t) (blk0 c V 0 t) (blk0 c V 1 t) (blk0 c V 2 t) (blk0 c V 3 t) (blk0 c V 4 t)
          ((dat0 c V).before 5 t d)
        ∗ (headAt c (st0_0 t) (st0_1 t) (st0_2 t) (st0_3 t) (st0_4 t) (st0_5 t) (blk0 c V 0 t) (blk0 c V 1 t) (blk0 c V 2 t) (blk0 c V 3 t) (blk0 c V 4 t)
          (acc c V t.val) -∗ Q ⟨⟩))
      ⊢ wp frame (wpE (defs₀ (F := F)) 𝒱₀ c none) Set.univ (bodyAt0 t) Q := by
  by_cases ht : t.val = 0
  · rw [show acc c V t.val = contrib (blk0 c V 0 t) (blk0 c V 1 t) (blk0 c V 2 t) (blk0 c V 3 t) (blk0 c V 4 t) from by
      rw [ht]; show part c V 0 = _; unfold part; rw [← ht, pt_val]]
    exact first_head c _ _ _ _ _ _ _ Q ((first_iff t).mpr ht) (fun h => (later_iff t).mp h ht)
  · rw [acc_later c V t ht, before0_5 c V t ht, show part c V t.val = contrib (blk0 c V 0 t) (blk0 c V 1 t) (blk0 c V 2 t) (blk0 c V 3 t) (blk0 c V 4 t) from by
      unfold part; rw [pt_val]]
    exact later_head c _ _ _ _ _ _ _ Q (fun h => ht ((first_iff t).mp h)) ((later_iff t).mpr ht)

theorem body0 : BodyObligation (dat0 c V) defs₀ 𝒱₀ 0 Set.univ := fun t => by
  rw [bigSep_W0, bigSep_W0, defs₀_row0]
  dsimp only
  rw [show idle0 5 (grid0.coords t) = false from live5 _]
  dsimp only
  rw [show (dat0 c V).Φ t.succ = (dat0 c V).Φ t.castSucc from rfl, show (dat0 c V).owesAt 0 t.succ = (dat0 c V).owesAt 0 t.castSucc from rfl]
  iintro ⟨HΦ, HO, ⟨%d0, H0⟩, ⟨%d1, H1⟩, ⟨%d2, H2⟩, ⟨%d3, H3⟩, ⟨%d4, H4⟩, ⟨%d5, H5⟩⟩
  iapply (point c V t d5)
  unfold headAt
  isplitl [H0 H1 H2 H3 H4 H5]
  · isplitl [H0]; · rw [← before0_0 c V t d0]; iexact H0
    isplitl [H1]; · rw [← before0_1 c V t d1]; iexact H1
    isplitl [H2]; · rw [← before0_2 c V t d2]; iexact H2
    isplitl [H3]; · rw [← before0_3 c V t d3]; iexact H3
    isplitl [H4]; · rw [← before0_4 c V t d4]; iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

end Cert.KernelIdeal.Ring
-- ==== Proof.Chain.lean ====
/-
  The steps in a row: what a device holds before step j of the reduce-scatter and of the all-gather, how one step goes on to the
  next, and a round of the barrier.
-/
module

public import proofs.«01_k».proof.Proof.Step

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks Idealize.ShloMosaic.TalkSites
open Cert.KernelIdeal Cert.KernelIdeal.Gen

variable {F : FTy → Type} [FloatOps F]

local notation "𝕄" => MT nD τ sig ℕ (Elt F) ℕ UU ℕ

/-! ## A family over the 31 steps, from step `j` on and up to step `j` -/

section Families

variable (Φ Ψ : Fin 31 → sProp (MT nD τ sig ℕ (Elt F) ℕ UU ℕ))

/-- The members from step `j` on. -/
def fromStep (j : ℕ) : sProp 𝕄 := Classical.choose (named (F := F) (bigSep (Finset.univ.filter fun i : Fin 31 => j ≤ i.val) Φ))
/-- The members before step `j`. -/
def upTo (j : ℕ) : sProp 𝕄 := Classical.choose (named (F := F) (bigSep (Finset.univ.filter fun i : Fin 31 => i.val < j) Φ))
/-- All members. -/
abbrev all : sProp 𝕄 := fromStep Φ 0

theorem fromStep_eq (j : ℕ) : fromStep Φ j = bigSep (Finset.univ.filter fun i : Fin 31 => j ≤ i.val) Φ := Classical.choose_spec (named (F := F) _)
theorem upTo_eq (j : ℕ) : upTo Φ j = bigSep (Finset.univ.filter fun i : Fin 31 => i.val < j) Φ := Classical.choose_spec (named (F := F) _)

theorem all_eq : all Φ = bigSep Finset.univ Φ := by
  unfold all; rw [fromStep_eq, Finset.filter_true_of_mem fun i _ => Nat.zero_le _]
theorem upTo_last : upTo Φ 31 = all Φ := by
  rw [all_eq, upTo_eq, Finset.filter_true_of_mem fun i _ => i.isLt]
theorem upTo_zero : upTo Φ 0 = (iprop(emp) : sProp 𝕄) := by
  rw [upTo_eq, Finset.filter_false_of_mem fun i _ => Nat.not_lt_zero _]; exact bigSep_empty
theorem fromStep_last : fromStep Φ 31 = (iprop(emp) : sProp 𝕄) := by
  rw [fromStep_eq, Finset.filter_false_of_mem fun i _ => by have := i.isLt; omega]; exact bigSep_empty

theorem fromStep_pop (j : Fin 31) : fromStep Φ j.val = iprop(Φ j ∗ fromStep Φ (j.val + 1)) := by
  have h : (Finset.univ.filter fun i : Fin 31 => j.val ≤ i.val) = insert j (Finset.univ.filter fun i : Fin 31 => j.val + 1 ≤ i.val) := by
    ext i; simp only [Finset.mem_filter, Finset.mem_univ, _root_.true_and, Finset.mem_insert, Fin.ext_iff]; omega
  rw [fromStep_eq, fromStep_eq, h]
  exact BI.bigSep_insert fun h' => by have := (Finset.mem_filter.mp h').2; omega
theorem upTo_push (j : Fin 31) : upTo Φ (j.val + 1) = iprop(Φ j ∗ upTo Φ j.val) := by
  have h : (Finset.univ.filter fun i : Fin 31 => i.val < j.val + 1) = insert j (Finset.univ.filter fun i : Fin 31 => i.val < j.val) := by
    ext i; simp only [Finset.mem_filter, Finset.mem_univ, _root_.true_and, Finset.mem_insert, Fin.ext_iff]; omega
  rw [upTo_eq, upTo_eq, h]
  exact BI.bigSep_insert fun h' => by have := (Finset.mem_filter.mp h').2; omega

theorem all_sep : all (fun j => iprop(Φ j ∗ Ψ j)) = iprop(all Φ ∗ all Ψ) := by
  rw [all_eq, all_eq, all_eq]; exact BI.bigSep_sep _ _ _
theorem all_mono {Φ Ψ : Fin 31 → sProp 𝕄} (h : ∀ j, Φ j ⊢ Ψ j) : all Φ ⊢ all Ψ := by
  rw [all_eq, all_eq]; exact BI.bigSep_mono fun j _ => h j

end Families

variable (P : Dev nD → S1024x1024.Idx → Elt F .f32)

/-! ## One step goes on to the next -/

/-- What a reduce-scatter step leaves for good, with the evidence that came with its chunk. -/
def rsKept (c : Dev nD) (j : Fin 31) : sProp 𝕄 := iprop(rsLeave (F := F) c j ∗ reached ER (barCell (back c (j.val + 1))) 1)

/-- Before reduce-scatter step `j`. -/
def rsAt (c : Dev nD) (j : ℕ) : sProp 𝕄 :=
  iprop(rsCur P c j ∗ fromStep (rsTake P c) j ∗ upTo (rsKept (F := F) c) j ∗ owing c (rsLeft c j))
/-- Before all-gather step `j`. -/
def agAt (c : Dev nD) (j : ℕ) : sProp 𝕄 :=
  iprop(agCur P c j ∗ fromStep (agTake (F := F) c) j ∗ upTo (agLeave P c) j ∗ owing c (agLeft c j))

theorem rsCur_evidence (c : Dev nD) (j : ℕ) : rsCur P c j ⊢ iprop(rsCur P c j ∗ reached ER (barCell (back c j)) 1) := by
  unfold rsCur
  iintro ⟨Ho, HatS, #HrS, #HrB⟩
  isplitl [Ho HatS]
  · isplitl [Ho]; · iexact Ho
    isplitl [HatS]; · iexact HatS
    isplitr; · iexact HrS
    iexact HrB
  iexact HrB

theorem rs_at (K : GSem nD τ sig → ℕ) (c : Dev nD) (j : ℕ) (hj : j < 31) {n : Dev nD} (hn : n = nxt c)
    {o : Fin 2 → ℕ} (ho : o = ![32 * (back c j).val, 0]) {hi : ∀ a, o a + S32x1024.size a ≤ S1024x1024.size a}
    {o' : Fin 2 → ℕ} (ho' : o' = ![32 * (back c (j + 1)).val, 0]) {hi' : ∀ a, o' a + S32x1024.size a ≤ S1024x1024.size a}
    {p : Fin 3 → ℕ} {hpi : ∀ a, p a + S1x32x1024.size a ≤ S31x32x1024.size a}
    {q : Fin 1 → ℕ} {hqi : ∀ a, q a + S1.size a ≤ S31.size a}
    {pay : Vec F S32x1024 .f32 → Vec F S1x32x1024 .f32 → FVec F S32x1024 .f32}
    {hw1 hw2} {hT} {hw3 hw4 hw5 hw6} {hl1 hl2 hl3} {hs1 hs2} {R : sProp 𝕄}
    {k : PUnit → Prog (TpuEff nD τ sig (Elt F) Λ₀ .tc) PUnit} {Q : PUnit → sProp 𝕄}
    (hp : p = ![j, 0, 0]) (hq : q = ![j]) (hpay : pay = k1_pay2)
    (hk : iprop(ctx P K ∗ rsAt P c (j + 1) ∗ R) ⊢ wp frame (wpE (defs₀ (F := F)) 𝒱₀ c none) Set.univ (k ⟨⟩) Q) :
    iprop(ctx P K ∗ rsAt P c j ∗ R)
      ⊢ wp frame (wpE (defs₀ (F := F)) 𝒱₀ c none) Set.univ
        (.op (.enqueueDma (oM.slice (Rect.unit (s := S1024x1024) o S32x1024.size hi) (fun _ => rfl))
            (.remote (Dev.tc n) ((rM.slice (Rect.unit (s := S31x32x1024) p S1x32x1024.size hpi) (fun _ => rfl)).squeeze S32x1024 squeezes_S1x32x1024_S32x1024) (.dma cc1_scratch1.sem))
            (.dma ((cc1_scratch2.slice (Rect.unit (s := S31) q S1.size hqi)).squeeze S_ squeezes_S1_S_).sem) hw1 hw2 hT) fun _ =>
          .op (.waitDma2 cc1_scratch1.sem ((rM.slice (Rect.unit (s := S31x32x1024) p S1x32x1024.size hpi) (fun _ => rfl)).squeeze S32x1024 squeezes_S1x32x1024_S32x1024)
            (oM.slice (Rect.unit (s := S1024x1024) o S32x1024.size hi) (fun _ => rfl)) hw3 hw4) fun _ =>
          .op (.waitDma2 ((cc1_scratch2.slice (Rect.unit (s := S31) q S1.size hqi)).squeeze S_ squeezes_S1_S_).sem
            (oM.slice (Rect.unit (s := S1024x1024) o S32x1024.size hi) (fun _ => rfl))
            ((rM.slice (Rect.unit (s := S31x32x1024) p S1x32x1024.size hpi) (fun _ => rfl)).squeeze S32x1024 squeezes_S1x32x1024_S32x1024) hw5 hw6) fun _ =>
          .op (.load oM (Rect.unit (s := S1024x1024) o' S32x1024.size hi').toLoadRect hl1) fun x =>
          .op (.load rM (Rect.unit (s := S31x32x1024) p S1x32x1024.size hpi).toLoadRect hl2) fun y =>
          .op (.load oM (Rect.unit (s := S1024x1024) o' S32x1024.size hi').toLoadRect hl3) fun _ =>
          .op (.store oM (Rect.unit (s := S1024x1024) o' S32x1024.size hi') (pay x y) Finset.univ hs1 hs2) k) Q := by
  unfold rsAt at hk ⊢
  iintro ⟨#Hctx, ⟨Hcur, Hf, Hu, HO⟩, HR⟩
  ihave Hf := (Entails.of_eq (fromStep_pop (rsTake P c) ⟨j, hj⟩)) $$ Hf
  icases Hf with ⟨Ht, Hf⟩
  iapply (rs_step P K c ⟨j, hj⟩ hn ho ho' hp hq hpay)
  isplitr; · iexact Hctx
  isplitl [Hcur]; · iexact Hcur
  isplitl [Ht]; · iexact Ht
  isplitl [HO]; · iexact HO
  iintro ⟨Hl, Hcur, HO⟩
  ihave Hcur := (rsCur_evidence P c (j + 1)) $$ Hcur
  icases Hcur with ⟨Hcur, #Hr⟩
  iapply hk
  isplitr; · iexact Hctx
  isplitr [HR]; swap; · iexact HR
  isplitl [Hcur]; · iexact Hcur
  isplitl [Hf]; · iexact Hf
  isplitl [Hu Hl]
  · iapply (Entails.of_eq (upTo_push (rsKept (F := F) c) ⟨j, hj⟩).symm)
    isplitl [Hl]
    · unfold rsKept; isplitl [Hl]; · iexact Hl
      iexact Hr
    iexact Hu
  iexact HO

theorem ag_at (K : GSem nD τ sig → ℕ) (c : Dev nD) (j : ℕ) (hj : j < 31) {n : Dev nD} (hn : n = nxt c)
    {o : Fin 2 → ℕ} (ho : o = ![32 * (back (nxt c) j).val, 0]) {hi : ∀ a, o a + S32x1024.size a ≤ S1024x1024.size a}
    {q : Fin 1 → ℕ} {hqi : ∀ a, q a + S1.size a ≤ S31.size a}
    {hw1 hw2} {hT} {hw3 hw4 hw5 hw6} {R : sProp 𝕄}
    {k : PUnit → Prog (TpuEff nD τ sig (Elt F) Λ₀ .tc) PUnit} {Q : PUnit → sProp 𝕄} (hq : q = ![j])
    (hk : iprop(ctx P K ∗ agAt P c (j + 1) ∗ R) ⊢ wp frame (wpE (defs₀ (F := F)) 𝒱₀ c none) Set.univ (k ⟨⟩) Q) :
    iprop(ctx P K ∗ agAt P c j ∗ R)
      ⊢ wp frame (wpE (defs₀ (F := F)) 𝒱₀ c none) Set.univ
        (.op (.enqueueDma (oM.slice (Rect.unit (s := S1024x1024) o S32x1024.size hi) (fun _ => rfl))
            (.remote (Dev.tc n) (oM.slice (Rect.unit (s := S1024x1024) o S32x1024.size hi) (fun _ => rfl)) (.dma cc1_scratch1.sem))
            (.dma ((cc1_scratch2.slice (Rect.unit (s := S31) q S1.size hqi)).squeeze S_ squeezes_S1_S_).sem) hw1 hw2 hT) fun _ =>
          .op (.waitDma2 cc1_scratch1.sem (oM.slice (Rect.unit (s := S1024x1024) o S32x1024.size hi) (fun _ => rfl))
            (oM.slice (Rect.unit (s := S1024x1024) o S32x1024.size hi) (fun _ => rfl)) hw3 hw4) fun _ =>
          .op (.waitDma2 ((cc1_scratch2.slice (Rect.unit (s := S31) q S1.size hqi)).squeeze S_ squeezes_S1_S_).sem
            (oM.slice (Rect.unit (s := S1024x1024) o S32x1024.size hi) (fun _ => rfl))
            (oM.slice (Rect.unit (s := S1024x1024) o S32x1024.size hi) (fun _ => rfl)) hw5 hw6) k) Q := by
  unfold agAt at hk ⊢
  iintro ⟨#Hctx, ⟨Hcur, Hf, Hu, HO⟩, HR⟩
  ihave Hf := (Entails.of_eq (fromStep_pop (agTake (F := F) c) ⟨j, hj⟩)) $$ Hf
  icases Hf with ⟨Ht, Hf⟩
  iapply (ag_step P K c ⟨j, hj⟩ hn ho hq)
  isplitr; · iexact Hctx
  isplitl [Hcur]; · iexact Hcur
  isplitl [Ht]; · iexact Ht
  isplitl [HO]; · iexact HO
  iintro ⟨Hl, Hcur, HO⟩
  iapply hk
  isplitr; · iexact Hctx
  isplitr [HR]; swap; · iexact HR
  isplitl [Hcur]; · iexact Hcur
  isplitl [Hf]; · iexact Hf
  isplitl [Hu Hl]
  · iapply (Entails.of_eq (upTo_push (agLeave P c) ⟨j, hj⟩).symm)
    isplitl [Hl]; · iexact Hl
    iexact Hu
  iexact HO

/-! ## A round of the barrier -/

theorem barDue_succ (c : Dev nD) (i : ℕ) (l : List (Pay nD τ sig)) :
    tallyL (barDue c i ++ l) = tallyL ((barCell (nxt c), i, 1) :: l) + tallyAt (barCell (prv c)) i 1 := by
  show tallyL ((barCell (prv c), i, 1) :: (barCell (nxt c), i, 1) :: l) = _
  rw [tallyL, add_comm]

/-- What a barrier round takes besides what it lends, and what it leaves. -/
def barTake (c : Dev nD) (r i : ℕ) : sProp 𝕄 :=
  iprop(dutyTok ER (barCell (prv c)) r true ∗ dutyTok ER (barCell (nxt c)) r false ∗ reached ER (barCell (prv c)) r ∗ reached ER (barCell (nxt c)) r
    ∗ atPos ER (barCell c) r ∅ 0 ∗ cred (tallyAt (barCell c) i 2))
@[inherit_doc barTake] def barLeave (c : Dev nD) (r : ℕ) : sProp 𝕄 := iprop(atPos ER (barCell c) (r + 1) ∅ 0 ∗ reached ER (barCell c) (r + 1))

theorem bar_round (K : GSem nD τ sig → ℕ) (c : Dev nD) (r i : ℕ) (hr : r < 2) (hi : i < NL) {l : List (Pay nD τ sig)}
    (hl : ∀ x ∈ l, x.1.1.2 = .tc ∧ i < x.2.1 ∧ x.2.1 < NL) {n n' : Dev nD} (hn : n = prv c) (hn' : n' = nxt c) {z z' w : ℤ} (hz : z = (1 : ℕ)) (hz' : z' = (1 : ℕ)) (hw : w = (2 : ℕ))
    {k : PUnit → Prog (TpuEff nD τ sig (Elt F) Λ₀ .tc) PUnit} {Q : PUnit → sProp 𝕄} :
    iprop(ctx P K ∗ barTake (F := F) c r i ∗ barPay (prv c) r true ∗ owing c (barDue c i ++ l)
        ∗ ((barLeave (F := F) c r ∗ barPay c r true ∗ owing c l) -∗ wp frame (wpE (defs₀ (F := F)) 𝒱₀ c none) Set.univ (k ⟨⟩) Q))
      ⊢ wp frame (wpE (defs₀ (F := F)) 𝒱₀ c none) Set.univ
        (.op (.semSignal (Dev.tc n) barS z) fun _ => .op (.semSignal (Dev.tc n') barS z') fun _ => .op (.semWait barS w) k) Q := by
  subst hn hn' hz hz' hw
  unfold barTake owing
  iintro ⟨⟨#HI, #Hlev⟩, ⟨HtP, HtN, #HrP, #HrN, Hat, Hc⟩, Hpay, ⟨%W, HO⟩, Hk⟩
  ihave #HIp := (inv_bar P K (prv c)) $$ HI
  ihave #HIn := (inv_bar P K (nxt c)) $$ HI
  ihave #HIc := (inv_bar P K c) $$ HI
  iapply (Rounds.wp_signal 𝒱₀ ER (sched P) (c : Thread nD τ) none (dst := (prv c : Thread nD τ)) (sem := barS) (r := r) (d := true) (κ := K (barCell (prv c)))
      (by rw [duties_bar P _ hr]; decide) (amount_bar P _ _ _) i (tallyL ((barCell (nxt c), i, 1) :: l)) (barDue_succ c i l)) $$ [HO HtP Hpay]
  · isplitr; · iexact HIp
    isplitl [HO]; · iexact HO
    isplitl [HtP]; · iexact HtP
    isplitl [Hpay]; · rw [payload_bar]; iexact Hpay
    iexact HrP
  iintro HO
  iapply (Rounds.wp_signal 𝒱₀ ER (sched P) (c : Thread nD τ) none (dst := (nxt c : Thread nD τ)) (sem := barS) (r := r) (d := false) (κ := K (barCell (nxt c)))
      (by rw [duties_bar P _ hr]; decide) (amount_bar P _ _ _) i (tallyL l) (add_comm _ _)) $$ [HO HtN]
  · isplitr; · iexact HIn
    isplitl [HO]; · iexact HO
    isplitl [HtN]; · iexact HtN
    isplitr; · rw [payload_bar]; unfold barPay; iempintro
    iexact HrN
  iintro HO
  iapply (Rounds.wp_wait_rest_token 𝒱₀ ER (sched P) (c : Thread nD τ) none (κ := K (barCell c))
      (wpE_semWait_eq 𝒱₀ (c : Thread nD τ) none Set.univ) (Set.mem_univ _) i (O := tallyL l) (W := W) (R := r) (m := 0) (T := ∅)
      ((Nat.zero_add 2).trans (expect_bar P c hr).symm)) $$ [Hc HO Hat]
  · isplitr; · iexact HIc
    isplitl [Hc]; · iexact Hc
    isplitl [HO]; · iexact HO
    isplitr; · iapply (mayWait_below c (.reg barS) l hi hl); iexact Hlev
    iexact Hat
  iintro ⟨HO, Hat, #Hr, Hpay⟩
  ihave Hp := (Entails.of_eq (rest_bar P c hr)) $$ Hpay
  icases Hp with ⟨Hp, -⟩
  iapply Hk
  unfold barLeave
  isplitl [Hat]
  · isplitl [Hat]; · iexact Hat
    iexact Hr
  isplitl [Hp]; · iexact Hp
  iexists _; iexact HO

end Cert.KernelIdeal.Ring
-- ==== Proof.Chunks.lean ====
/-
  The result's buffer as 32 chunks and the receive buffer as 31 slots: held whole or held part by part.
-/
module

public import proofs.«01_k».proof.Proof.Chain
public import Idealize.ShloMosaic.Lib.Ring
public import Idealize.ShloMosaic.Lib.SparseCore.Stream

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks Idealize.ShloMosaic.TalkSites
open Cert.KernelIdeal Cert.KernelIdeal.Gen

variable {F : FTy → Type} [FloatOps F]

local notation "𝕄" => MT nD τ sig ℕ (Elt F) ℕ UU ℕ

/-! ## Rows by chunk -/

/-- The chunk a row lies in, and where it lies there. -/
def chunkOf (i : S1024x1024.Idx) : Dev nD := ⟨(i 0).val / 32, by have h : (i 0).val < 1024 := (i 0).isLt; show (i 0).val / 32 < 32; omega⟩
@[inherit_doc chunkOf] def inChunk (i : S1024x1024.Idx) : S32x1024.Idx := fun a =>
  ⟨if a = 0 then (i 0).val % 32 else (i 1).val, by
    fin_cases a
    · show (i 0).val % 32 < 32; omega
    · exact (i 1).isLt⟩

/-- The array of 32 chunks. -/
def gathered (w : Dev nD → FVec F S32x1024 .f32) : S1024x1024.Idx → Elt F .f32 := fun i => w (chunkOf i) (inChunk i)

theorem chunk_emb (k : Dev nD) (i : S32x1024.Idx) : chunkOf ((chunkR k).emb i) = k ∧ inChunk ((chunkR k).emb i) = i := by
  have h0 : ((chunkR k).emb i 0).val = 32 * k.val + 1 * (i 0).val := rfl
  have h1 : ((chunkR k).emb i 1).val = 0 + 1 * (i 1).val := rfl
  have hi : (i 0).val < 32 := (i 0).isLt
  constructor
  · apply Fin.ext; show ((chunkR k).emb i 0).val / 32 = k.val; omega
  · funext a; apply Fin.ext
    fin_cases a
    · show ((chunkR k).emb i 0).val % 32 = (i 0).val; omega
    · show ((chunkR k).emb i 1).val = (i 1).val; omega

theorem emb_chunk (i : S1024x1024.Idx) : (chunkR (chunkOf i)).emb (inChunk i) = i := by
  funext a; apply Fin.ext
  fin_cases a
  · show 32 * ((i 0).val / 32) + 1 * ((i 0).val % 32) = (i 0).val; omega
  · show 0 + 1 * (i 1).val = (i 1).val; omega

theorem blk_gathered (w : Dev nD → FVec F S32x1024 .f32) (k : Dev nD) : blk (gathered w) k = w k := by
  funext i
  show w (chunkOf ((chunkR k).emb i)) (inChunk ((chunkR k).emb i)) = w k i
  rw [(chunk_emb k i).1, (chunk_emb k i).2]
theorem gathered_blk (X : S1024x1024.Idx → Elt F .f32) : gathered (blk X) = X := funext fun i => congrArg X (emb_chunk i)

/-! ## The result's buffer -/

theorem oC_set (k : Dev nD) : (oC k).view.set = (chunkR k).set := View.set_slice_whole _ _

theorem mem_chunk {k : Dev nD} {i : S1024x1024.Idx} (h : i ∈ (chunkR k).set) : chunkOf i = k ∧ ∃ j, (chunkR k).emb j = i := by
  rw [← Rect.map_emb_univ] at h
  obtain ⟨j, -, rfl⟩ := Finset.mem_map.mp h
  exact ⟨(chunk_emb k j).1, j, rfl⟩

theorem chunks_disjoint (k k' : Dev nD) (h : k ≠ k') : Disjoint (chunkR k).set (chunkR k').set := by
  rw [Finset.disjoint_left]
  exact fun i hi hi' => h ((mem_chunk hi).1.symm.trans (mem_chunk hi').1)
theorem chunks_cover : Finset.univ.biUnion (fun k : Dev nD => (chunkR k).set) = Finset.univ := by
  ext i
  simp only [Finset.mem_biUnion, Finset.mem_univ, _root_.true_and, iff_true]
  refine ⟨chunkOf i, ?_⟩
  rw [← Rect.map_emb_univ]
  exact Finset.mem_map.mpr ⟨inChunk i, Finset.mem_univ _, emb_chunk i⟩

theorem chunk_out (c k : Dev nD) (v : S1024x1024.Idx → Elt F .f32) :
    (oM.view.loc (c : Thread nD τ) ↦[(chunkR k).set]{fullShare} v : sProp 𝕄) ⊢ holds c (oC k) (blk v k) := by
  rw [← oC_set k]; unfold holds
  iintro H; iexists v; isplitr; · ipureintro; rfl
  iexact H
theorem chunk_in (c k : Dev nD) (w : Dev nD → FVec F S32x1024 .f32) :
    holds c (oC k) (w k) ⊢ (oM.view.loc (c : Thread nD τ) ↦[(chunkR k).set]{fullShare} (gathered w) : sProp 𝕄) := by
  rw [← oC_set k]; unfold holds
  iintro ⟨%f, %hf, H⟩
  ihave H := (Entails.of_eq (pointsTo_congr (g := gathered w) (fun i hi => by
    rw [oC_set k] at hi
    obtain ⟨-, j, rfl⟩ := mem_chunk hi
    rw [show gathered w ((chunkR k).emb j) = w k j from congrFun (blk_gathered w k) j, ← hf]; rfl))) $$ H
  iexact H

/-- Held whole at `v` is held chunk by chunk at `v`'s chunks. -/
theorem holds_split (c : Dev nD) (v : S1024x1024.Idx → Elt F .f32) : holds c oM v ⊢ (bigSep Finset.univ fun k : Dev nD => holds c (oC k) (blk v k) : sProp 𝕄) := by
  refine BIBase.Entails.trans (Q := (oM.view.loc (c : Thread nD τ) ↦[Finset.univ.biUnion (fun k : Dev nD => (chunkR k).set)]{fullShare} v)) ?_ ?_
  · rw [chunks_cover]
    unfold holds
    iintro ⟨%f, %hf, H⟩
    obtain rfl : f = v := hf
    ihave H := (Entails.of_eq (by rw [View.set_whole])) $$ H
    iexact H
  · rw [pointsTo_biUnion Finset.univ _ (fun k _ k' _ h => chunks_disjoint k k' h)]
    exact BI.bigSep_mono fun k _ => chunk_out c k v

theorem holds_join (c : Dev nD) (w : Dev nD → FVec F S32x1024 .f32) : (bigSep Finset.univ fun k : Dev nD => holds c (oC k) (w k) : sProp 𝕄) ⊢ holds c oM (gathered w) := by
  refine BIBase.Entails.trans (Q := bigSep Finset.univ fun k : Dev nD => (oM.view.loc (c : Thread nD τ) ↦[(chunkR k).set]{fullShare} (gathered w))) ?_ ?_
  · exact BI.bigSep_mono fun k _ => chunk_in c k w
  · rw [← pointsTo_biUnion Finset.univ _ (fun k _ k' _ h => chunks_disjoint k k' h), chunks_cover]
    unfold holds
    rw [View.set_whole]
    iintro H; iexists _; isplitr; swap; · iexact H
    ipureintro; rfl

/-- The chunks from `c` on to the left: all of them. -/
theorem around (c : Dev nD) (Φ : Dev nD → sProp 𝕄) : bigSep Finset.univ Φ = iprop(Φ c ∗ all fun j => Φ (back c (j.val + 1))) := by
  have hinj : Function.Injective fun j : Fin 31 => back c (j.val + 1) := fun i j h => by
    have h : (c.val + 64 - (i.val + 1)) % 32 = (c.val + 64 - (j.val + 1)) % 32 := congrArg Fin.val h
    have := i.isLt; have := j.isLt; have := dev_lt c
    apply Fin.ext; omega
  have hu : (Finset.univ : Finset (Dev nD)) = insert c (Finset.univ.map ⟨_, hinj⟩) := by
    ext k
    have hk := dev_lt k; have hc := dev_lt c
    simp only [Finset.mem_univ, Finset.mem_insert, Finset.mem_map, Function.Embedding.coeFn_mk, _root_.true_and, true_iff]
    by_cases h : k = c
    · exact Or.inl h
    · have h' : k.val ≠ c.val := fun e => h (Fin.ext e)
      refine Or.inr ⟨⟨(c.val + 31 - k.val) % 32, by omega⟩, Fin.ext ?_⟩
      show (c.val + 64 - ((c.val + 31 - k.val) % 32 + 1)) % 32 = k.val
      omega
  rw [hu, all_eq]
  refine (BI.bigSep_insert ?_).trans ?_
  · intro h
    obtain ⟨j, -, hj⟩ := Finset.mem_map.mp h
    have hj : (c.val + 64 - (j.val + 1)) % 32 = c.val := congrArg Fin.val hj
    have := j.isLt; have := dev_lt c
    omega
  · rw [bigSep_map]; rfl
theorem around' (c : Dev nD) (Φ : Dev nD → sProp 𝕄) : bigSep Finset.univ Φ = iprop(Φ (back c 31) ∗ all fun j => Φ (back c j.val)) := by
  rw [back_31, around (nxt c) Φ]
  congr 1
  congr 1; funext j
  rw [back_nxt c (by have := j.isLt; omega)]

/-! ## The receive buffer -/

theorem rS_set (j : Fin 31) : (rS j).view.set = (slotR j).set := (View.set_reshape _ _).trans (View.set_slice_whole _ _)

theorem slots_disjoint (i j : Fin 31) (h : i ≠ j) : Disjoint (slotR i).set (slotR j).set := by
  rw [Finset.disjoint_left]
  intro x hi hj
  have h1 := (Rect.mem_set_unit.mp hi) 0
  have h2 := (Rect.mem_set_unit.mp hj) 0
  have h1 : i.val ≤ (x 0).val ∧ (x 0).val < i.val + 1 := h1
  have h2 : j.val ≤ (x 0).val ∧ (x 0).val < j.val + 1 := h2
  exact h (Fin.ext (by omega))
theorem slots_cover : Finset.univ.biUnion (fun j : Fin 31 => (slotR j).set) = Finset.univ := by
  ext x
  simp only [Finset.mem_biUnion, Finset.mem_univ, _root_.true_and, iff_true]
  have h0 : (x 0).val < 31 := (x 0).isLt
  have h1 : (x 1).val < 32 := (x 1).isLt
  have h2 : (x 2).val < 1024 := (x 2).isLt
  refine ⟨⟨(x 0).val, h0⟩, Rect.mem_set_unit.mpr fun a => ?_⟩
  fin_cases a
  · exact ⟨Nat.le_refl _, Nat.lt_succ_self _⟩
  · exact ⟨Nat.zero_le _, by show (x 1).val < 0 + 32; omega⟩
  · exact ⟨Nat.zero_le _, by show (x 2).val < 0 + 1024; omega⟩

theorem slot_out (c : Dev nD) (j : Fin 31) (f : Buf (Elt F) (rM.view.loc (c : Thread nD τ))) :
    (rM.view.loc (c : Thread nD τ) ↦[(slotR j).set]{fullShare} f : sProp 𝕄) ⊢ holdsAny c (rS j) := by
  unfold holdsAny; rw [rS_set j]
  iintro H; iexists f; iexact H
theorem slot_in (c : Dev nD) (j : Fin 31) : holdsAny c (rS j) ⊢ (iprop(∃ f, rM.view.loc (c : Thread nD τ) ↦[(slotR j).set]{fullShare} f) : sProp 𝕄) := by
  unfold holdsAny; rw [rS_set j]

theorem slots_eq (c : Dev nD) (f : Buf (Elt F) (rM.view.loc (c : Thread nD τ))) :
    (rM.view.loc (c : Thread nD τ) ↦[rM.view.set]{fullShare} f : sProp 𝕄) = bigSep Finset.univ fun j : Fin 31 => (rM.view.loc (c : Thread nD τ) ↦[(slotR j).set]{fullShare} f) := by
  rw [View.set_whole, ← pointsTo_biUnion Finset.univ _ (fun k _ k' _ h => slots_disjoint k k' h), slots_cover]

theorem slots_split (c : Dev nD) : holdsAny c rM ⊢ (all fun j => holdsAny c (rS j) : sProp 𝕄) := by
  rw [all_eq]
  refine BIBase.Entails.trans (Q := iprop(∃ f, bigSep Finset.univ fun j : Fin 31 => (rM.view.loc (c : Thread nD τ) ↦[(slotR j).set]{fullShare} f))) ?_ ?_
  · unfold holdsAny
    iintro ⟨%f, H⟩
    iexists f
    ihave H := (Entails.of_eq (slots_eq c f)) $$ H
    iexact H
  · iintro ⟨%f, H⟩
    iapply (show (bigSep Finset.univ fun j : Fin 31 => (rM.view.loc (c : Thread nD τ) ↦[(slotR j).set]{fullShare} f) : sProp 𝕄) ⊢ bigSep Finset.univ fun j : Fin 31 => holdsAny c (rS j)
      from BI.bigSep_mono fun j _ => slot_out c j f)
    iexact H

theorem slots_join (c : Dev nD) : (all fun j => holdsAny c (rS j) : sProp 𝕄) ⊢ holdsAny c rM := by
  rw [all_eq]
  refine BIBase.Entails.trans (Q := bigSep Finset.univ fun j : Fin 31 => iprop(∃ f, rM.view.loc (c : Thread nD τ) ↦[(slotR j).set]{fullShare} f))
    (BI.bigSep_mono fun j _ => slot_in c j) ?_
  refine (bigSep_exists_pi Finset.univ fun (j : Fin 31) (f : Buf (Elt F) (rM.view.loc (c : Thread nD τ))) => (rM.view.loc (c : Thread nD τ) ↦[(slotR j).set]{fullShare} f : sProp 𝕄)).trans ?_
  iintro ⟨%fs, H⟩
  ihave H := (pointsTo_biUnion_join Finset.univ (fun j : Fin 31 => (slotR j).set) fs (fs 0) (fun k _ k' _ h => slots_disjoint k k' h)) $$ H
  icases H with ⟨%g, -, H⟩
  unfold holdsAny
  iexists g
  rw [View.set_whole]
  ihave H := (Entails.of_eq (by rw [slots_cover])) $$ H
  iexact H

end Cert.KernelIdeal.Ring
-- ==== Proof.Ends.lean ====
/-
  The all-reduce's beginning (the first round of the barrier, the partial copied to the result's buffer), the turn from the
  reduce-scatter to the all-gather (the second round of the barrier), and its end, at any device.
-/
module

public import proofs.«01_k».proof.Proof.Chunks

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks Idealize.ShloMosaic.TalkSites
open Cert.KernelIdeal Cert.KernelIdeal.Gen

variable {F : FTy → Type} [FloatOps F]

local notation "𝕄" => MT nD τ sig ℕ (Elt F) ℕ UU ℕ

variable (P : Dev nD → S1024x1024.Idx → Elt F .f32)

/-- The cells of the call's own semaphores, just opened. -/
def opened (c : Dev nD) : sProp 𝕄 :=
  iprop((atPos ER (sendCell c) 0 ∅ 0 ∗ reached ER (sendCell c) 0) ∗ all fun j => iprop(atPos ER (recvCell c j) 0 ∅ 0 ∗ reached ER (recvCell c j) 0))
/-- The tokens for the reduce-scatter's copies and the credit for its waits. -/
def rsTok (c : Dev nD) : sProp 𝕄 :=
  iprop((all fun j => dutyTok ER (recvCell (nxt c) j) 0 false) ∗ (all fun j => dutyTok ER (sendCell c) j.val false)
    ∗ all fun j => cred (tallyAt (recvCell c j) (2 + j.val) N))
/-- The same for the second round of the barrier and the all-gather. -/
def agTok (c : Dev nD) : sProp 𝕄 :=
  iprop((dutyTok ER (barCell (prv c)) 1 true ∗ dutyTok ER (barCell (nxt c)) 1 false ∗ cred (tallyAt (barCell c) 33 2))
    ∗ (all fun j => dutyTok ER (recvCell (nxt c) j) 1 false) ∗ (all fun j => dutyTok ER (sendCell c) (31 + j.val) false)
    ∗ all fun j => cred (tallyAt (recvCell c j) (34 + j.val) N))

theorem barPay_zero (c : Dev nD) : barPay (prv c) 0 true = (iprop((all fun j => holdsAny c (rS j)) ∗ all fun j => reached ER (recvCell c j) 0) : sProp 𝕄) := by
  rw [← all_sep, all_eq]; unfold barPay lendSlots; rw [if_pos rfl, if_pos rfl, nxt_prv]
theorem barPay_one (c : Dev nD) : barPay (prv c) 1 true = (iprop((all fun j => holdsAny c (oC (back c j.val))) ∗ all fun j => reached ER (recvCell c j) 1) : sProp 𝕄) := by
  rw [← all_sep, all_eq]; unfold barPay lendChunks; rw [if_pos rfl, if_neg (by decide), nxt_prv]
theorem barPay_zero' (c : Dev nD) : barPay c 0 true = (all fun j => iprop(holdsAny (nxt c) (rS j) ∗ reached ER (recvCell (nxt c) j) 0) : sProp 𝕄) := by
  rw [all_eq]; unfold barPay lendSlots; rw [if_pos rfl, if_pos rfl]
theorem barPay_one' (c : Dev nD) : barPay c 1 true = (all fun j => iprop(holdsAny (nxt c) (oC (back (nxt c) j.val)) ∗ reached ER (recvCell (nxt c) j) 1) : sProp 𝕄) := by
  rw [all_eq]; unfold barPay lendChunks; rw [if_pos rfl, if_neg (by decide)]

theorem rsTake_all (c : Dev nD) : all (rsTake P c) = iprop((all fun j => iprop(holdsAny (nxt c) (rS j) ∗ reached ER (recvCell (nxt c) j) 0))
    ∗ (all fun j => holds c (oC (back c (j.val + 1))) (blk (P c) (back c (j.val + 1))))
    ∗ (all fun j => dutyTok ER (recvCell (nxt c) j) 0 false) ∗ (all fun j => dutyTok ER (sendCell c) j.val false)
    ∗ (all fun j => atPos ER (recvCell c j) 0 ∅ 0) ∗ all fun j => cred (tallyAt (recvCell c j) (2 + j.val) N)) := by
  rw [← all_sep, ← all_sep, ← all_sep, ← all_sep, ← all_sep]; rfl
theorem rsKept_all (c : Dev nD) : all (rsKept (F := F) c) = iprop((all fun j => holdsAny c (oC (back c j.val))) ∗ (all fun j => holdsAny c (rS j))
    ∗ (all fun j => atPos ER (recvCell c j) 1 ∅ 0) ∗ (all fun j => reached ER (recvCell c j) 1)
    ∗ reached ER (barCell (back c 1)) 1 ∗ fromStep (fun j => reached ER (barCell (back c (j.val + 1))) 1) 1) := by
  rw [show (iprop(reached ER (barCell (back c 1)) 1 ∗ fromStep (fun j => reached ER (barCell (back c (j.val + 1))) 1) 1) : sProp 𝕄)
      = all fun j => reached ER (barCell (back c (j.val + 1))) 1 from (fromStep_pop (fun j : Fin 31 => (reached ER (barCell (back c (j.val + 1))) 1 : sProp 𝕄)) 0).symm]
  have h : (iprop((all fun j => holdsAny c (oC (back c j.val))) ∗ (all fun j => holdsAny c (rS j))
      ∗ (all fun j => atPos ER (recvCell c j) 1 ∅ 0) ∗ all fun j => reached ER (recvCell c j) 1) : sProp 𝕄) = all (rsLeave (F := F) c) := by
    rw [← all_sep, ← all_sep, ← all_sep]; rfl
  have h2 : all (rsKept (F := F) c) = iprop(all (rsLeave (F := F) c) ∗ all fun j => reached ER (barCell (back c (j.val + 1))) 1) := by
    rw [← all_sep]; rfl
  rw [h2, ← h]
  refine BI.equiv_iff.mp ⟨show (_ : sProp 𝕄) ⊢ _ from ?_, show (_ : sProp 𝕄) ⊢ _ from ?_⟩
  · iintro ⟨⟨H1, H2, H3, H4⟩, H5⟩
    isplitl [H1]; · iexact H1
    isplitl [H2]; · iexact H2
    isplitl [H3]; · iexact H3
    isplitl [H4] <;> iassumption
  · iintro ⟨H1, H2, H3, H4, H5⟩
    isplitr [H5]; swap; · iexact H5
    isplitl [H1]; · iexact H1
    isplitl [H2]; · iexact H2
    isplitl [H3] <;> iassumption
theorem agTake_all (c : Dev nD) : all (agTake (F := F) c) = iprop((all fun j => iprop(holdsAny (nxt c) (oC (back (nxt c) j.val)) ∗ reached ER (recvCell (nxt c) j) 1))
    ∗ (all fun j => dutyTok ER (recvCell (nxt c) j) 1 false) ∗ (all fun j => dutyTok ER (sendCell c) (31 + j.val) false)
    ∗ (all fun j => atPos ER (recvCell c j) 1 ∅ 0) ∗ all fun j => cred (tallyAt (recvCell c j) (34 + j.val) N)) := by
  rw [← all_sep, ← all_sep, ← all_sep, ← all_sep]; rfl
theorem agLeave_all (c : Dev nD) : all (agLeave P c) = iprop((all fun j => holds c (oC (back (nxt c) j.val)) (full P (back (nxt c) j.val))) ∗ all fun j => atPos ER (recvCell c j) 2 ∅ 0) := by
  rw [← all_sep]; rfl

theorem two_zeros : (![0, 0] : Fin 2 → ℕ) = fun _ => 0 := by funext a; fin_cases a <;> rfl

/-- The first round of the barrier and the copy of the partial: then the reduce-scatter may start. -/
theorem start_at (K : GSem nD τ sig → ℕ) (c : Dev nD) {n n' : Dev nD} (hn : n = prv c) (hn' : n' = nxt c) {z z' w : ℤ} (hz : z = (1 : ℕ)) (hz' : z' = (1 : ℕ)) (hw : w = (2 : ℕ))
    {hi hi' : ∀ a, (![0, 0] : Fin 2 → ℕ) a + S1024x1024.size a ≤ S1024x1024.size a} {hl hl' hs hs'} {R : sProp 𝕄}
    {k : PUnit → Prog (TpuEff nD τ sig (Elt F) Λ₀ .tc) PUnit} {Q : PUnit → sProp 𝕄}
    (hk : iprop(ctx P K ∗ rsAt P c 0 ∗ ((barLeave (F := F) c 0 ∗ holds c pM (P c)) ∗ R)) ⊢ wp frame (wpE (defs₀ (F := F)) 𝒱₀ c none) Set.univ (k ⟨⟩) Q) :
    iprop(ctx P K ∗ (barTake (F := F) c 0 1 ∗ rsTok (F := F) c ∗ opened (F := F) c ∗ owing c (dueL c) ∗ holds c pM (P c) ∗ holdsAny c oM ∗ holdsAny c rM) ∗ R)
      ⊢ wp frame (wpE (defs₀ (F := F)) 𝒱₀ c none) Set.univ
        (.op (.semSignal (Dev.tc n) barS z) fun _ => .op (.semSignal (Dev.tc n') barS z') fun _ => .op (.semWait barS w) fun _ =>
          .op (.load pM (Rect.unit (s := S1024x1024) ![0, 0] S1024x1024.size hi).toLoadRect hl) fun v =>
          .op (.load oM (Rect.unit (s := S1024x1024) ![0, 0] S1024x1024.size hi').toLoadRect hl') fun _ =>
          .op (.store oM (Rect.unit (s := S1024x1024) ![0, 0] S1024x1024.size hi') (k1_pay1 v) Finset.univ hs hs') k) Q := by
  unfold rsTok opened
  iintro ⟨#Hctx, ⟨Hbar, ⟨HtV, HtS, HcV⟩, ⟨⟨HatS, #HrS⟩, Hrecv⟩, HO, Hp, Ho, Hr⟩, HR⟩
  ihave Hrecv := (Entails.of_eq (all_sep (F := F) (fun j => atPos ER (recvCell c j) 0 ∅ 0) (fun j => reached ER (recvCell c j) 0))) $$ Hrecv
  icases Hrecv with ⟨HatV, HrV⟩
  ihave Hr := (slots_split c) $$ Hr
  iapply (bar_round P K c 0 1 (by decide) (by decide) (l := rsLeft c 0) (fun x hx => by obtain ⟨h1, h2, h3⟩ := rsLeft_above (by decide) hx; exact ⟨h1, by omega, h3⟩) hn hn' hz hz' hw)
  isplitr; · iexact Hctx
  isplitl [Hbar]; · iexact Hbar
  isplitl [Hr HrV]
  · iapply (Entails.of_eq (barPay_zero c).symm)
    isplitl [Hr] <;> iassumption
  isplitl [HO]; · iexact HO
  iintro ⟨Hbar, Hlend, HO⟩
  ihave Hlend := (Entails.of_eq (barPay_zero' (F := F) c)) $$ Hlend
  unfold holds holdsAny
  icases Hp with ⟨%fp, %hfp, Hp⟩
  obtain rfl : fp = P c := hfp
  icases Ho with ⟨%fo, Ho⟩
  iapply (wp_load_rect 𝒱₀ (c : Thread nD τ) none Set.univ (m := pM) (r := Rect.unit (s := S1024x1024) ![0, 0] S1024x1024.size hi) (by rw [View.set_whole]; exact Finset.subset_univ _)) $$ Hp; iintro Hp
  iapply (wp_load_rect 𝒱₀ (c : Thread nD τ) none Set.univ (m := oM) (r := Rect.unit (s := S1024x1024) ![0, 0] S1024x1024.size hi') (by rw [View.set_whole]; exact Finset.subset_univ _)) $$ Ho; iintro Ho
  iapply (wp_store 𝒱₀ (c : Thread nD τ) none Set.univ (m := oM) (r := Rect.unit (s := S1024x1024) ![0, 0] S1024x1024.size hi') (Mk := Finset.univ) (S := oM.view.set) (by rw [View.set_whole]; exact Finset.subset_univ _)) $$ Ho; iintro Ho
  ihave Ho := (show (oM.view.loc (c : Thread nD τ) ↦[oM.view.set]{fullShare} ((oM.access (Rect.unit (s := S1024x1024) ![0, 0] S1024x1024.size hi')).write (Elt F) fo
      (k1_pay1 ((pM.access (Rect.unit (s := S1024x1024) ![0, 0] S1024x1024.size hi)).read (Elt F) (P c))) Finset.univ) : sProp 𝕄) ⊢ holds c oM (P c) from by
    rw [show (oM.access (Rect.unit (s := S1024x1024) ![0, 0] S1024x1024.size hi')).write (Elt F) fo (k1_pay1 ((pM.access (Rect.unit (s := S1024x1024) ![0, 0] S1024x1024.size hi)).read (Elt F) (P c))) Finset.univ
        = k1_pay1 ((pM.access (Rect.unit (s := S1024x1024) ![0, 0] S1024x1024.size hi)).read (Elt F) (P c)) from Memref.write_access_unit_zero_univ (Elt F) cc1_stg1_0 two_zeros hi' fo _]
    unfold holds
    iintro H; iexists _; isplitr; swap; · iexact H
    ipureintro
    refine (show k1_pay1 ((pM.access (Rect.unit (s := S1024x1024) ![0, 0] S1024x1024.size hi)).read (Elt F) (P c)) = (pM.access (Rect.unit (s := S1024x1024) ![0, 0] S1024x1024.size hi)).read (Elt F) (P c)
      from shapeCast_self _ _).trans ?_
    exact Memref.readAt_unit_zero (Elt F) cc1_stg0_0 two_zeros hi (P c)) $$ Ho
  ihave Ho := (holds_split c (P c)) $$ Ho
  ihave Ho := (Entails.of_eq (around c fun k => holds c (oC k) (blk (P c) k))) $$ Ho
  icases Ho with ⟨Ho, Hoc⟩
  unfold barLeave
  icases Hbar with ⟨HatB, #HrB⟩
  iapply hk
  isplitr; · iexact Hctx
  isplitl [Ho Hoc Hlend HtV HtS HcV HatS HatV HO]
  · unfold rsAt rsCur
    isplitl [Ho HatS]
    · rw [back_zero]
      isplitl [Ho]; · iexact Ho
      isplitl [HatS]; · iexact HatS
      isplitr; · iexact HrS
      iexact HrB
    isplitl [Hoc Hlend HtV HtS HcV HatV]
    · iapply (Entails.of_eq (rsTake_all P c).symm)
      isplitl [Hlend]; · iexact Hlend
      isplitl [Hoc]; · iexact Hoc
      isplitl [HtV]; · iexact HtV
      isplitl [HtS]; · iexact HtS
      isplitl [HatV]; · iexact HatV
      iexact HcV
    isplitr; · rw [upTo_zero]; iempintro
    iexact HO
  isplitr [HR]; swap; · iexact HR
  unfold barLeave
  isplitl [HatB]
  · isplitl [HatB]; · iexact HatB
    iexact HrB
  unfold holds
  iexists _; isplitr; swap; · iexact Hp
  ipureintro; rfl

/-- The second round of the barrier: all chunks but the one a device has are lent to the left neighbour; then the all-gather may start. -/
theorem turn_at (K : GSem nD τ sig → ℕ) (c : Dev nD) {n n' : Dev nD} (hn : n = prv c) (hn' : n' = nxt c) {z z' w : ℤ} (hz : z = (1 : ℕ)) (hz' : z' = (1 : ℕ)) (hw : w = (2 : ℕ))
    {R : sProp 𝕄} {k : PUnit → Prog (TpuEff nD τ sig (Elt F) Λ₀ .tc) PUnit} {Q : PUnit → sProp 𝕄}
    (hk : iprop(ctx P K ∗ agAt P c 0 ∗ ((atPos ER (barCell c) 2 ∅ 0 ∗ holds c pM (P c) ∗ holdsAny c rM) ∗ R)) ⊢ wp frame (wpE (defs₀ (F := F)) 𝒱₀ c none) Set.univ (k ⟨⟩) Q) :
    iprop(ctx P K ∗ rsAt P c 31 ∗ ((barLeave (F := F) c 0 ∗ holds c pM (P c)) ∗ (agTok (F := F) c ∗ R)))
      ⊢ wp frame (wpE (defs₀ (F := F)) 𝒱₀ c none) Set.univ
        (.op (.semSignal (Dev.tc n) barS z) fun _ => .op (.semSignal (Dev.tc n') barS z') fun _ => .op (.semWait barS w) k) Q := by
  unfold rsAt rsCur agTok barLeave
  iintro ⟨#Hctx, ⟨⟨Ho, HatS, #HrS, #HrN⟩, -, Hkept, HO⟩, ⟨⟨HatB, #HrB⟩, Hp⟩, ⟨⟨HtP, HtN, HcB⟩, HtV, HtS, HcV⟩, HR⟩
  ihave Hkept := (Entails.of_eq ((upTo_last _).trans (rsKept_all c))) $$ Hkept
  icases Hkept with ⟨Hoc, Hr, HatV, HrV, #HrP, -⟩
  ihave Hr := (slots_join c) $$ Hr
  iapply (bar_round P K c 1 33 (by decide) (by decide) (l := agLeft c 0) (fun x hx => by obtain ⟨h1, h2, h3⟩ := agLeft_above hx; exact ⟨h1, by omega, h3⟩) hn hn' hz hz' hw)
  isplitr; · iexact Hctx
  isplitl [HtP HtN HcB HatB]
  · unfold barTake
    isplitl [HtP]; · iexact HtP
    isplitl [HtN]; · iexact HtN
    isplitr; · rw [← back_one]; iexact HrP
    isplitr; · rw [← back_31]; iexact HrN
    isplitl [HatB] <;> iassumption
  isplitl [Hoc HrV]
  · iapply (Entails.of_eq (barPay_one c).symm)
    isplitl [Hoc] <;> iassumption
  isplitl [HO]
  · iapply (Entails.of_eq (show owing (F := F) c (rsLeft c 31) = owing c (barDue c 33 ++ agLeft c 0) from rfl))
    iexact HO
  iintro ⟨Hbar, Hlend, HO⟩
  ihave Hlend := (Entails.of_eq (barPay_one' (F := F) c)) $$ Hlend
  unfold barLeave
  icases Hbar with ⟨HatB, -⟩
  iapply hk
  isplitr; · iexact Hctx
  isplitl [Ho Hlend HtV HtS HcV HatS HatV HO]
  · unfold agAt agCur
    isplitl [Ho HatS]
    · rw [back_31, back_zero]; unfold full; rw [prv_nxt]
      isplitl [Ho]; · iexact Ho
      isplitl [HatS]; · iexact HatS
      iexact HrS
    isplitl [Hlend HtV HtS HcV HatV]
    · iapply (Entails.of_eq (agTake_all c).symm)
      isplitl [Hlend]; · iexact Hlend
      isplitl [HtV]; · iexact HtV
      isplitl [HtS]; · iexact HtS
      isplitl [HatV]; · iexact HatV
      iexact HcV
    isplitr; · rw [upTo_zero]; iempintro
    iexact HO
  isplitr [HR]; swap; · iexact HR
  isplitl [HatB]; · iexact HatB
  isplitl [Hp] <;> iassumption

/-- The counters back in hand, all at zero. -/
def closed (c : Dev nD) : sProp 𝕄 := iprop(semVal (barCell c) 0 ∗ semVal (sendCell c) 0 ∗ all fun j => semVal (recvCell c j) 0)

theorem close_recv (K : GSem nD τ sig → ℕ) (c : Dev nD) : iprop(invs P K ∗ all fun j => atPos ER (recvCell c j) 2 ∅ 0) ⊢ (|={Set.univ}=> all fun j => semVal (recvCell c j) 0 : sProp 𝕄) := by
  rw [all_eq, all_eq]
  refine (Transfers.bigSep_mono_pers Finset.univ (invs P K) _ (fun j : Fin 31 => iprop(|={Set.univ}=> semVal (recvCell c j) 0)) fun j _ => ?_).trans (bigSep_fupd _ _)
  iintro ⟨#HI, Hat⟩
  ihave #HIr := (inv_recv P K c j) $$ HI
  iapply (Rounds.cell_close ER (sched P) (κ := K (recvCell c j)) (Set.mem_univ _) id (recv_done P c j))
  isplitr; · iexact HIr
  iexact Hat

/-- After the last step: the result is whole, the counters are zero, nothing is owed. -/
theorem end_at (K : GSem nD τ sig → ℕ) (c : Dev nD) {Q : PUnit → sProp 𝕄} :
    iprop(ctx P K ∗ agAt P c 31 ∗ ((atPos ER (barCell c) 2 ∅ 0 ∗ holds c pM (P c) ∗ holdsAny c rM)
        ∗ ((closed (F := F) c ∗ owing c [] ∗ holds c pM (P c) ∗ holds c oM (gathered (full P)) ∗ holdsAny c rM) -∗ Q ⟨⟩)))
      ⊢ wp frame (wpE (defs₀ (F := F)) 𝒱₀ c none) Set.univ (.ret ⟨⟩) Q := by
  unfold agAt agCur
  iintro ⟨⟨#HI, #Hlev⟩, ⟨⟨Ho, HatS, -⟩, -, Hl, HO⟩, ⟨HatB, Hp, Hr⟩, Hk⟩
  ihave Hl := (Entails.of_eq ((upTo_last _).trans (agLeave_all P c))) $$ Hl
  icases Hl with ⟨Hoc, HatV⟩
  ihave Ho := (Entails.of_eq (around' (nxt c) fun k => holds c (oC k) (full P k)).symm) $$ [Ho Hoc]
  · isplitl [Ho] <;> iassumption
  ihave Ho := (holds_join c (full P)) $$ Ho
  ihave #HIb := (inv_bar P K c) $$ HI
  ihave #HIs := (inv_send P K c) $$ HI
  rw [wp_ret]
  imod (Rounds.cell_close ER (sched P) (κ := K (barCell c)) (Set.mem_univ _) id (bar_done P c)) $$ [HatB] with HvB
  · isplitr; · iexact HIb
    iexact HatB
  imod (Rounds.cell_close ER (sched P) (κ := K (sendCell c)) (Set.mem_univ _) id (send_done P c)) $$ [HatS] with HvS
  · isplitr; · iexact HIs
    iexact HatS
  imod (close_recv P K c) $$ [HatV] with HvV
  · isplitr; · iexact HI
    iexact HatV
  imodintro
  iapply Hk
  unfold closed
  isplitl [HvB HvS HvV]
  · isplitl [HvB]; · iexact HvB
    isplitl [HvS] <;> iassumption
  isplitl [HO]; · iexact HO
  isplitl [Hp]; · iexact Hp
  isplitl [Ho] <;> iassumption

end Cert.KernelIdeal.Ring
-- ==== Proof.Body.lean ====
/-
  The all-reduce's body at any device: the first barrier round, 31 steps of the reduce-scatter, the second barrier round, 31
  steps of the all-gather.
-/
module

public import proofs.«01_k».proof.Proof.Ends

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks Idealize.ShloMosaic.TalkSites
open Cert.KernelIdeal Cert.KernelIdeal.Gen

variable {F : FTy → Type} [FloatOps F]

local notation "𝕄" => MT nD τ sig ℕ (Elt F) ℕ UU ℕ

variable (P : Dev nD → S1024x1024.Idx → Elt F .f32)

/-! ## The printed offsets and devices -/

theorem off1_at (c : Dev nD) (j : ℕ) (hj : j < 31) : k1_off1 c (BitVec.ofNat 32 j) = ![32 * (back c j).val, 0] := by
  refine (k1_off1_eq c ⟨j, hj⟩).trans ?_
  have := dev_lt c
  rw [show ((c.val + 32) - j) % 32 = (back c j).val from by show _ = (c.val + 64 - j) % 32; omega]
theorem off2_at (c : Dev nD) (j : ℕ) (hj : j < 31) : k1_off2 c (BitVec.ofNat 32 j) = ![32 * (back c (j + 1)).val, 0] := by
  refine (k1_off2_eq c ⟨j, hj⟩).trans ?_
  have := dev_lt c
  rw [show ((c.val + 31) - j) % 32 = (back c (j + 1)).val from by show _ = (c.val + 64 - (j + 1)) % 32; omega]
theorem off3_at (c : Dev nD) (j : ℕ) (hj : j < 31) : k1_off3 c (BitVec.ofNat 32 j) = ![32 * (back (nxt c) j).val, 0] := by
  refine (k1_off3_eq c ⟨j, hj⟩).trans ?_
  have := dev_lt c
  rw [show ((c.val + 33) - j) % 32 = (back (nxt c) j).val from by show _ = ((c.val + 1) % 32 + 64 - j) % 32; omega]

theorem dev_left (c : Dev nD) : (⟨k1_dev1 c, k1_dev1_lt c⟩ : Dev nD) = prv c := Fin.ext (k1_dev1_eq c)
theorem dev_right (c : Dev nD) : (⟨k1_dev3 c, k1_dev3_lt c⟩ : Dev nD) = nxt c := Fin.ext (k1_dev3_eq c)

/-- What a device brings to the call, and what it has afterwards: the partial unchanged, the result the 32 full chunks. -/
def ringPre (c : Dev nD) : sProp 𝕄 :=
  iprop(barTake (F := F) c 0 1 ∗ rsTok (F := F) c ∗ opened (F := F) c ∗ owing c (dueL c) ∗ holds c pM (P c) ∗ holdsAny c oM ∗ holdsAny c rM)
@[inherit_doc ringPre] def ringPost (c : Dev nD) : sProp 𝕄 :=
  iprop(closed (F := F) c ∗ owing c [] ∗ holds c pM (P c) ∗ holds c oM (gathered (full P)) ∗ holdsAny c rM)

set_option maxHeartbeats 4000000 in
set_option maxRecDepth 65536 in
theorem ring_run (K : GSem nD τ sig → ℕ) (c : Dev nD) {h0 h1 h2} (Q : PUnit → sProp 𝕄) :
    iprop(ctx P K ∗ ringPre P c ∗ (agTok (F := F) c ∗ (ringPost P c -∗ Q ⟨⟩)))
      ⊢ wp frame (wpE (defs₀ (F := F)) 𝒱₀ c none) Set.univ (cc1__allreduce_body pM h0 oM h1 rM h2 cc1_scratch1 cc1_scratch2) Q := by
  simp only [cc1__allreduce_body_eq_skeleton, cc1__allreduce_body_skel, k1_part61_eq_skeleton, k1_part61_skel,
    k1_part1_eq_skeleton, k1_part1_skel, k1_part2_eq_skeleton, k1_part2_skel, k1_part3_eq_skeleton, k1_part3_skel, k1_part4_eq_skeleton, k1_part4_skel, k1_part5_eq_skeleton, k1_part5_skel, k1_part6_eq_skeleton, k1_part6_skel, k1_part7_eq_skeleton, k1_part7_skel, k1_part8_eq_skeleton, k1_part8_skel, k1_part9_eq_skeleton, k1_part9_skel, k1_part10_eq_skeleton, k1_part10_skel, k1_part11_eq_skeleton, k1_part11_skel, k1_part12_eq_skeleton, k1_part12_skel, k1_part13_eq_skeleton, k1_part13_skel, k1_part14_eq_skeleton, k1_part14_skel, k1_part15_eq_skeleton, k1_part15_skel, k1_part16_eq_skeleton, k1_part16_skel, k1_part17_eq_skeleton, k1_part17_skel, k1_part18_eq_skeleton, k1_part18_skel, k1_part19_eq_skeleton, k1_part19_skel, k1_part20_eq_skeleton, k1_part20_skel, k1_part21_eq_skeleton, k1_part21_skel, k1_part22_eq_skeleton, k1_part22_skel, k1_part23_eq_skeleton, k1_part23_skel, k1_part24_eq_skeleton, k1_part24_skel, k1_part25_eq_skeleton, k1_part25_skel, k1_part26_eq_skeleton, k1_part26_skel, k1_part27_eq_skeleton, k1_part27_skel, k1_part28_eq_skeleton, k1_part28_skel, k1_part29_eq_skeleton, k1_part29_skel, k1_part30_eq_skeleton, k1_part30_skel, k1_part31_eq_skeleton, k1_part31_skel, k1_part32_eq_skeleton, k1_part32_skel, k1_part33_eq_skeleton, k1_part33_skel, k1_part34_eq_skeleton, k1_part34_skel, k1_part35_eq_skeleton, k1_part35_skel, k1_part36_eq_skeleton, k1_part36_skel, k1_part37_eq_skeleton, k1_part37_skel, k1_part38_eq_skeleton, k1_part38_skel, k1_part39_eq_skeleton, k1_part39_skel, k1_part40_eq_skeleton, k1_part40_skel, k1_part41_eq_skeleton, k1_part41_skel, k1_part42_eq_skeleton, k1_part42_skel, k1_part43_eq_skeleton, k1_part43_skel, k1_part44_eq_skeleton, k1_part44_skel, k1_part45_eq_skeleton, k1_part45_skel, k1_part46_eq_skeleton, k1_part46_skel, k1_part47_eq_skeleton, k1_part47_skel, k1_part48_eq_skeleton, k1_part48_skel, k1_part49_eq_skeleton, k1_part49_skel, k1_part50_eq_skeleton, k1_part50_skel, k1_part51_eq_skeleton, k1_part51_skel, k1_part52_eq_skeleton, k1_part52_skel, k1_part53_eq_skeleton, k1_part53_skel, k1_part54_eq_skeleton, k1_part54_skel, k1_part55_eq_skeleton, k1_part55_skel, k1_part56_eq_skeleton, k1_part56_skel, k1_part57_eq_skeleton, k1_part57_skel, k1_part58_eq_skeleton, k1_part58_skel, k1_part59_eq_skeleton, k1_part59_skel, k1_part60_eq_skeleton, k1_part60_skel,
    Prog.bind_op, Prog.bind_ret, Prog.lift, Prog.pure_eq_ret, semSignalWord, semWaitWord, wp_deviceId]
  unfold ringPre ringPost
  refine start_at P K c (dev_left c) (dev_right c) rfl rfl rfl ?_
  iterate 31 refine rs_at P K c _ (by decide) (dev_right c) (off1_at c _ (by decide)) (off2_at c _ (by decide)) rfl rfl rfl ?_
  refine turn_at P K c (dev_left c) (dev_right c) rfl rfl rfl ?_
  iterate 31 refine ag_at P K c _ (by decide) (dev_right c) (off3_at c _ (by decide)) rfl ?_
  exact end_at P K c

end Cert.KernelIdeal.Ring
-- ==== Proof.Talk.lean ====
/-
  The all-reduce call as the pipeline runs it: one point, the partial staged in, the result staged out. What it takes of the
  ring's ghost state, what it gives back, and its body obligation.
-/
module

public import proofs.«01_k».proof.Proof.Body
public import proofs.«01_k».proof.Proof.Gen.KernelIdeal.Points
public import Idealize.ShloMosaic.Lib.Pipeline.FrameBody
public import Idealize.ShloMosaic.Lib.Pipeline.ValueKit.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds
open Idealize.ShloMosaic.SiteBlocks Idealize.ShloMosaic.TalkSites
open Cert.KernelIdeal Cert.KernelIdeal.Gen

variable {F : FTy → Type} [FloatOps F]

local notation "𝕄" => MT nD τ sig ℕ (Elt F) ℕ UU ℕ

variable (P : Dev nD → S1024x1024.Idx → Elt F .f32) (c : Dev nD)

/-- The ring's ghost state as it enters the call's body: all cells under invariants, the call's own ones open. -/
def armed : sProp 𝕄 := iprop(∃ K, ctx P K ∗ (barTake (F := F) c 0 1 ∗ rsTok (F := F) c ∗ opened (F := F) c) ∗ agTok (F := F) c)

/-- The call's proof data at a valuation whose `main_v17` is `P c`. -/
def dat1 (V : Valuation τ sig (Elt F)) : Dat τ (Elt F) ℕ ℕ UU ℕ cfg1 c where
  A w := V (Proc.devRef .tc (arrRef spec1 w))
  after w t := match w with
    | 0 => ((cfg1.win 0).blk t).view.read (Elt F) (V (Proc.devRef .tc (arrRef spec1 0)))
    | 1 => gathered (full P)
    | ⟨_ + 2, h⟩ => absurd h (Nat.not_lt.2 (Nat.le_add_left _ _))
  Φ t := if t.val = 0 then iprop(armed P c ∗ Pipeline.scopedRest spec1 c ∗ ∃ r, prngReg c r)
    else iprop(closed (F := F) c ∗ Pipeline.scopedRest spec1 c ∗ ∃ r, prngReg c r)
  q _ := fullShare
  owed t := if t.val = 0 then tallyL (dueL c) else 0

variable (V : Valuation τ sig (Elt F))

theorem owed1_first : (dat1 P c V).owed t1_0.castSucc = tallyL (dueL c) := by
  show (if (t1_0.castSucc : Fin (cfg1.N + 1)).val = 0 then tallyL (dueL c) else 0) = _; exact if_pos rfl
theorem owed1_last : (dat1 P c V).owed (Fin.last _) = 0 := by
  show (if (Fin.last cfg1.N).val = 0 then tallyL (dueL c) else 0) = 0
  rw [Fin.val_last, if_neg (by rw [show cfg1.N = 1 from N_1]; decide)]

theorem owing_in {cfg : Pipeline.Cfg sig Λ₀} (dat : Dat τ (Elt F) ℕ ℕ UU ℕ cfg c) (t : Fin (cfg.N + 1)) (l : List (Pay nD τ sig)) (h : dat.owed t = tallyL l)
    (hr : dat.recorded t = Set.univ) : (owing c l : sProp 𝕄) ⊢ dat.owesAt 0 t := by
  unfold Dat.owesAt Pipeline.owesWithin Dat.bound; rw [h, hr]
  iintro ⟨%W, HO⟩; iexists W; isplitr; · ipureintro; exact fun _ _ => Or.inl trivial
  iexact HO
theorem owing_out {cfg : Pipeline.Cfg sig Λ₀} (dat : Dat τ (Elt F) ℕ ℕ UU ℕ cfg c) (t : Fin (cfg.N + 1)) (l : List (Pay nD τ sig)) (h : dat.owed t = tallyL l) :
    (dat.owesAt 0 t : sProp 𝕄) ⊢ owing c l := by
  unfold Dat.owesAt Pipeline.owesWithin; rw [h]
  iintro ⟨%W, -, HO⟩; iexists W; iexact HO

theorem read1_0 (hV : V (Proc.devRef .tc main_v17) = P c) :
    (((cfg1.win 0).blk t1_0).view.read (Elt F) (V (Proc.devRef .tc main_v17)) : S1024x1024.Idx → Elt F .f32) = P c := by
  rw [hV]
  funext j
  exact congrArg (P c) (show ((cfg1.win 0).blk t1_0).view.emb j = j from by
    funext a; apply Fin.ext; blk_simp
    rw [show win1_0.index t1_0 a = 0 from (show ∀ a, win1_0.index t1_0 a = 0 by decide +kernel) a, Nat.zero_mul, Nat.zero_add])
theorem before1_0 (hV : V (Proc.devRef .tc main_v17) = P c) (d) : (dat1 P c V).before 0 t1_0 d = P c :=
  ((dat1 P c V).before_in_eq_fetched 0 rfl (fun _ => rfl) (fun _ _ _ => rfl) (fun _ => rfl) t1_0 d).trans (read1_0 P c V hV)

theorem owns_holds (M : Memref sig .tc .vmem S1024x1024 .f32) (v : S1024x1024.Idx → Elt F .f32) : (owns (c : Thread nD τ) M fullShare v : sProp 𝕄) ⊢ holds c M v := by
  unfold owns holds; exact .rfl
theorem holds_owns (M : Memref sig .tc .vmem S1024x1024 .f32) (v : S1024x1024.Idx → Elt F .f32) : (holds c M v : sProp 𝕄) ⊢ owns (c : Thread nD τ) M fullShare v := by
  unfold owns holds; exact .rfl

theorem rM_any : (iprop(∃ f : Buf (Elt F) ((c : Thread nD τ).loc cc1_scratch0), ((c : Thread nD τ).loc cc1_scratch0) ↦{fullShare} f) : sProp 𝕄) ⊢ holdsAny c rM := by
  unfold holdsAny
  iintro ⟨%f, H⟩; iexists f
  rw [show (rM).view.set = Finset.univ from View.set_whole _]; iexact H
theorem any_rM : (holdsAny c rM : sProp 𝕄) ⊢ iprop(∃ f : Buf (Elt F) ((c : Thread nD τ).loc cc1_scratch0), ((c : Thread nD τ).loc cc1_scratch0) ↦{fullShare} f) := by
  unfold holdsAny
  iintro ⟨%f, H⟩; iexists f
  rw [show (rM).view.set = Finset.univ from View.set_whole _]; iexact H

theorem defs₀_row1 (t : Fin cfg1.N) : defs₀ (F := F) .tc cfg1.body (cfg1.bodyArgs t (cfg1.slots t)) = bodyAt1 t := by
  unfold defs₀; rw [Defs.onTc_tc]

theorem body1 (hV : V (Proc.devRef .tc main_v17) = P c) : BodyObligation (dat1 P c V) defs₀ 𝒱₀ 0 Set.univ := fun t => by
  obtain rfl := fin_N1 t
  rw [bigSep_W1, bigSep_W1, defs₀_row1]
  dsimp only
  rw [show (dat1 P c V).Φ t1_0.castSucc = iprop(armed P c ∗ Pipeline.scopedRest spec1 c ∗ ∃ r, prngReg c r) from rfl,
    show (dat1 P c V).Φ t1_0.succ = iprop(closed (F := F) c ∗ Pipeline.scopedRest spec1 c ∗ ∃ r, prngReg c r) from rfl, scopedRest1_eq]
  unfold armed
  iintro ⟨⟨⟨%K, Hctx, ⟨HB, HR, HOp⟩, HA⟩, ⟨G0, G1, G2, G3, G4, G5, G6, G7, G8, G9, Hs⟩, Hp⟩, HO, ⟨%d0, H0⟩, ⟨%d1, H1⟩⟩
  iapply (ring_run P K c _)
  isplitl [Hctx]; · iexact Hctx
  isplitl [HB HR HOp HO H0 H1 Hs]
  · unfold ringPre
    isplitl [HB]; · iexact HB
    isplitl [HR]; · iexact HR
    isplitl [HOp]; · iexact HOp
    isplitl [HO]; · iapply (owing_out c (dat1 P c V) t1_0.castSucc (dueL c) (owed1_first P c V)); iexact HO
    isplitl [H0]; · iapply (owns_holds c pM (P c)); rw [← before1_0 P c V hV d0]; iexact H0
    isplitl [H1]; · iapply (holds_any c oM _); iapply (owns_holds c oM _); iexact H1
    iapply (rM_any c); iexact Hs
  isplitl [HA]; · iexact HA
  unfold ringPost
  iintro ⟨HC, HO, H0, H1, Hs⟩
  isplitr [HO H0 H1]
  · isplitl [HC]; · iexact HC
    isplitr [Hp]; swap; · iexact Hp
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iapply (any_rM c); iexact Hs
  isplitl [HO]; · iapply (owing_in c (dat1 P c V) t1_0.succ [] (owed1_last P c V) rfl); iexact HO
  isplitl [H0]
  · iapply (show (holds c pM (P c) : sProp 𝕄) ⊢ owns (c : Thread nD τ) (stage1_0 0) fullShare ((dat1 P c V).after 0 t1_0) from by
      rw [show (dat1 P c V).after 0 t1_0 = P c from read1_0 P c V hV]; exact holds_owns c pM (P c))
    iexact H0
  iapply (holds_owns c oM _); iexact H1

/-! ## What the call leaves in its arrays -/

theorem arr1_out : (dat1 P c V).arrAt 1 cfg1.N = gathered (full P) := by
  refine (dat1 P c V).arrAt_eq_of_after_last 1 t1_0 (by decide +kernel) _ fun j => ?_
  blk_simp
  dsimp only [dat1]

end Cert.KernelIdeal.Ring
-- ==== Proof.Deal.lean ====
/-
  What the launch deals each device of the ring: the tokens of the duties it pays, the credit of its own waits, the right to
  open its own cells of the call, its place on its barrier.
-/
module

public import proofs.«01_k».proof.Proof.Ends
public import Idealize.ShloMosaic.Lib.Pipeline.Regions
public import Idealize.ShloMosaic.Lib.Pipeline.BigSepL

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks Idealize.ShloMosaic.TalkSites
open Cert.KernelIdeal Cert.KernelIdeal.Gen

variable {F : FTy → Type} [FloatOps F]

local notation "𝕄" => MT nD τ sig ℕ (Elt F) ℕ UU ℕ

variable (P : Dev nD → S1024x1024.Idx → Elt F .f32) (c : Dev nD)

/-! ## Credit: the payments to a device, which its neighbours owe -/

/-- The payments to the receive cells of `c` with levels from `b`; to its barrier cell at level `i`; all of them. -/
def recvIn (b : ℕ) (c : Dev nD) : List (Pay nD τ sig) := (List.finRange 31).map fun j => (recvCell c j, b + j.val, N)
@[inherit_doc recvIn] def barIn (i : ℕ) (c : Dev nD) : List (Pay nD τ sig) := [(barCell c, i, 1), (barCell c, i, 1)]
@[inherit_doc recvIn] def inL (c : Dev nD) : List (Pay nD τ sig) := barIn 1 c ++ (recvIn 2 c ++ (barIn 33 c ++ recvIn 34 c))

/-- The right neighbour, as a bijection of the devices. -/
def ring : Dev nD ≃ Dev nD := ⟨nxt, prv, prv_nxt, nxt_prv⟩

theorem sum_nxt {A : Type} [AddCommMonoid A] (f : Dev nD → A) : (∑ d : Dev nD, f (nxt d)) = ∑ d : Dev nD, f d := Equiv.sum_comp ring f
theorem sum_prv {A : Type} [AddCommMonoid A] (f : Dev nD → A) : (∑ d : Dev nD, f (prv d)) = ∑ d : Dev nD, f d := Equiv.sum_comp ring.symm f

theorem barDue_tally (i : ℕ) (d : Dev nD) : tallyL (barDue d i) = tallyAt (barCell (prv d)) i 1 + tallyAt (barCell (nxt d)) i 1 := by
  show _ + (_ + 0) = _; rw [add_zero]
theorem barIn_tally (i : ℕ) (d : Dev nD) : tallyL (barIn i d) = tallyAt (barCell d) i 1 + tallyAt (barCell d) i 1 := by
  show _ + (_ + 0) = _; rw [add_zero]

/-- What all devices owe is what all devices are owed. -/
theorem owed_eq : (∑ d : Dev nD, tallyL (dueL d)) = ∑ d : Dev nD, tallyL (inL d) := by
  have hr (b : ℕ) : (∑ d : Dev nD, tallyL (recvIn b (nxt d))) = ∑ d : Dev nD, tallyL (recvIn b d) := sum_nxt fun d => tallyL (recvIn b d)
  have hb (i : ℕ) : (∑ d : Dev nD, tallyL (barDue d i)) = ∑ d : Dev nD, tallyL (barIn i d) := by
    simp only [barDue_tally, barIn_tally, Finset.sum_add_distrib]
    rw [sum_prv fun d => tallyAt (barCell d) i 1, sum_nxt fun d => tallyAt (barCell d) i 1]
  have hd (d : Dev nD) : tallyL (dueL d) = tallyL (barDue d 1) + (tallyL (recvIn 2 (nxt d)) + (tallyL (barDue d 33) + tallyL (recvIn 34 (nxt d)))) := by
    unfold dueL; rw [tallyL_append, tallyL_append, tallyL_append]; rfl
  have hi (d : Dev nD) : tallyL (inL d) = tallyL (barIn 1 d) + (tallyL (recvIn 2 d) + (tallyL (barIn 33 d) + tallyL (recvIn 34 d))) := by
    unfold inL; rw [tallyL_append, tallyL_append, tallyL_append]
  simp only [hd, hi, Finset.sum_add_distrib, hr, hb]

theorem inL_own {d : Dev nD} {x : Pay nD τ sig} (h : x ∈ inL d) : x.1.1 = (d : Thread nD τ) := by
  have hb (i : ℕ) (h : x ∈ barIn i d) : x.1.1 = (d : Thread nD τ) := by
    rcases List.mem_cons.mp h with rfl | h
    · rfl
    · rw [List.mem_singleton.mp h]
  have hr (b : ℕ) (h : x ∈ recvIn b d) : x.1.1 = (d : Thread nD τ) := by
    obtain ⟨j, -, rfl⟩ := List.mem_map.mp h; rfl
  rcases List.mem_append.mp h with h | h
  · exact hb 1 h
  rcases List.mem_append.mp h with h | h
  · exact hr 2 h
  rcases List.mem_append.mp h with h | h
  · exact hb 33 h
  · exact hr 34 h

theorem launch_credit : (Pipeline.launchCred (fun d => tallyL (dueL d)) c : sProp 𝕄) = cred (tallyL (inL c)) :=
  Pipeline.launchCred_of_sum _ (fun d => tallyL (inL d)) owed_eq (fun d g hg => by
    obtain ⟨i, hi⟩ := DFunLike.ne_iff.mp hg
    obtain ⟨x, hx, rfl, -⟩ := tallyL_pos (Nat.pos_of_ne_zero hi)
    exact inL_own hx) c

theorem cred_recvIn (b : ℕ) : (cred (tallyL (recvIn b c)) : sProp 𝕄) = all fun j => cred (tallyAt (recvCell c j) (b + j.val) N) := by
  rw [cred_tallyL, recvIn, bigSepL_map, all_eq]
  exact (bigSep_univ_eq_bigSepL (List.finRange 31) (by decide) (List.nodup_finRange 31) _).symm
theorem cred_barIn (i : ℕ) : (cred (tallyL (barIn i c)) : sProp 𝕄) = cred (tallyAt (barCell c) i 2) := by
  rw [barIn_tally, tallyAt_add]

/-- The credit of a device's waits, wait by wait. -/
theorem credit : (Pipeline.launchCred (fun d => tallyL (dueL d)) c : sProp 𝕄)
    = iprop(cred (tallyAt (barCell c) 1 2) ∗ (all fun j => cred (tallyAt (recvCell c j) (2 + j.val) N))
      ∗ cred (tallyAt (barCell c) 33 2) ∗ all fun j => cred (tallyAt (recvCell c j) (34 + j.val) N)) := by
  have h (a b : CellTallies nD τ sig ℕ) : (cred (a + b) : sProp 𝕄) = iprop(cred a ∗ cred b) := BI.Entails.antisymm (cred_add _ _).1 (cred_add _ _).2
  rw [launch_credit, inL, tallyL_append, h, tallyL_append, h, tallyL_append, h, cred_barIn, cred_recvIn, cred_barIn, cred_recvIn]

/-! ## Tokens and rights to open -/

/-- The right to open a device's own cells of the call. -/
def rights : sProp 𝕄 := iprop(openTok ER (sendCell c) ∗ all fun j => openTok ER (recvCell c j))

theorem rights_eq : (bigSep (fam.dorm 0) fun sm => openTok ER ((c.tc : Thread nD τ), sm) : sProp 𝕄) = rights (F := F) c := by
  unfold rights
  rw [all_eq, show fam.dorm 0 = insert (.dma sendS) (Finset.univ.map recvE) from rfl, BI.bigSep_insert (by
    intro h; obtain ⟨j, -, h⟩ := Finset.mem_map.mp h; exact recvS_ne_send j (SemLoc.dma.inj h)), bigSep_map]
  rfl

/-- A step of the reduce-scatter, and of the all-gather, as a round of the send cell. -/
def stepE (b : ℕ) : Fin 31 ↪ ℕ := ⟨fun j => b + j.val, fun _ _ h => Fin.ext (Nat.add_left_cancel h)⟩

theorem range_62 : Finset.range 62 = Finset.univ.map (stepE 0) ∪ Finset.univ.map (stepE 31) := by decide +kernel

theorem send_toks : (bigSep ((Finset.range 62).map (sendTokE c)) fun x => dutyTok ER x.1 x.2.1 x.2.2 : sProp 𝕄)
    = iprop((all fun j => dutyTok ER (sendCell c) j.val false) ∗ all fun j => dutyTok ER (sendCell c) (31 + j.val) false) := by
  rw [bigSep_map, range_62, BI.bigSep_union (by decide +kernel), bigSep_map, bigSep_map, all_eq, all_eq]
  refine congrArg₂ _ (bigSep_congr fun j _ => ?_) rfl
  show dutyTok ER (sendCell c) (0 + j.val) false = _
  rw [Nat.zero_add]

theorem recv_toks (r : ℕ) : (bigSep (Finset.univ.map (recvTokE c r)) fun x => dutyTok ER x.1 x.2.1 x.2.2 : sProp 𝕄)
    = all fun j => dutyTok ER (recvCell (nxt c) j) r false := by
  rw [bigSep_map, all_eq]; rfl

theorem bar_toks : (bigSep (barToks c) fun x => dutyTok ER x.1 x.2.1 x.2.2 : sProp 𝕄)
    = iprop(dutyTok ER (barCell (prv c)) 0 true ∗ dutyTok ER (barCell (nxt c)) 0 false ∗ dutyTok ER (barCell (prv c)) 1 true ∗ dutyTok ER (barCell (nxt c)) 1 false) := by
  unfold barToks
  rw [BI.bigSep_insert (by simp), BI.bigSep_insert (by simp), BI.bigSep_insert (by simp), BI.bigSep_singleton]; rfl

theorem toks_eq : (bigSep (fam.toks c 0) fun x => dutyTok ER x.1 x.2.1 x.2.2 : sProp 𝕄)
    = iprop((dutyTok ER (barCell (prv c)) 0 true ∗ dutyTok ER (barCell (nxt c)) 0 false ∗ dutyTok ER (barCell (prv c)) 1 true ∗ dutyTok ER (barCell (nxt c)) 1 false)
      ∗ (all fun j => dutyTok ER (recvCell (nxt c) j) 0 false) ∗ (all fun j => dutyTok ER (recvCell (nxt c) j) 1 false)
      ∗ (all fun j => dutyTok ER (sendCell c) j.val false) ∗ all fun j => dutyTok ER (sendCell c) (31 + j.val) false) := by
  have hrs (r : ℕ) : Disjoint (Finset.univ.map (recvTokE c r)) ((Finset.range 62).map (sendTokE c)) := Finset.disjoint_left.mpr fun x h h' => by
    obtain ⟨j, -, rfl⟩ := Finset.mem_map.mp h
    obtain ⟨i, -, h'⟩ := Finset.mem_map.mp h'
    exact recvS_ne_send j (SemLoc.dma.inj (congrArg (fun x : GSem nD τ sig × ℕ × Bool => x.1.2) h')).symm
  have hrr : Disjoint (Finset.univ.map (recvTokE c 0)) (Finset.univ.map (recvTokE c 1)) := Finset.disjoint_left.mpr fun x h h' => by
    obtain ⟨j, -, rfl⟩ := Finset.mem_map.mp h
    obtain ⟨i, -, h'⟩ := Finset.mem_map.mp h'
    exact absurd (congrArg (fun x : GSem nD τ sig × ℕ × Bool => x.2.1) h') Nat.one_ne_zero
  have hb (x : GSem nD τ sig × ℕ × Bool) (h : x ∈ barToks c) : x.1.2 = .reg barS := by
    simp only [barToks, Finset.mem_insert, Finset.mem_singleton] at h
    rcases h with rfl | rfl | rfl | rfl <;> rfl
  have hbr (r : ℕ) (x : GSem nD τ sig × ℕ × Bool) (h : x ∈ Finset.univ.map (recvTokE c r)) : x.1.2 ≠ .reg barS := by
    obtain ⟨j, -, rfl⟩ := Finset.mem_map.mp h; exact fun h => by cases h
  have hbs (x : GSem nD τ sig × ℕ × Bool) (h : x ∈ (Finset.range 62).map (sendTokE c)) : x.1.2 ≠ .reg barS := by
    obtain ⟨j, -, rfl⟩ := Finset.mem_map.mp h; exact fun h => by cases h
  rw [show fam.toks c 0 = barToks c ∪ (Finset.univ.map (recvTokE c 0) ∪ (Finset.univ.map (recvTokE c 1) ∪ (Finset.range 62).map (sendTokE c))) from rfl,
    BI.bigSep_union (Finset.disjoint_left.mpr fun x h h' => by
      rcases Finset.mem_union.mp h' with h' | h'
      · exact hbr 0 x h' (hb x h)
      rcases Finset.mem_union.mp h' with h' | h'
      · exact hbr 1 x h' (hb x h)
      · exact hbs x h' (hb x h)),
    BI.bigSep_union (Finset.disjoint_union_right.mpr ⟨hrr, hrs 0⟩), BI.bigSep_union (hrs 1), bar_toks, recv_toks, recv_toks, send_toks]
  rfl

/-! ## What stays with a device until the call -/

/-- The cells' invariants, and all that the call takes but its own counters. -/
def stock : sProp 𝕄 := iprop((∃ K, invs P K) ∗ barTake (F := F) c 0 1 ∗ rsTok (F := F) c ∗ agTok (F := F) c ∗ rights (F := F) c)

/-- A device's barrier neighbours. -/
def nbs (c : Dev nD) : Finset (Dev nD) := {prv c, nxt c}

theorem nbs_eq (Φ : Dev nD → sProp (MT nD τ sig ℕ (Elt F) ℕ UU ℕ)) : bigSep (nbs c) Φ = iprop(Φ (prv c) ∗ Φ (nxt c)) := by
  rw [nbs, BI.bigSep_insert (by rw [Finset.mem_singleton]; exact (nxt_ne_prv c).symm), BI.bigSep_singleton]; rfl

theorem stock_intro : iprop(Pipeline.launchCred (fun d => tallyL (dueL d)) c ∗ fam.launched ER (sched P) nbs c) ⊢ stock P c := by
  unfold Fam.launched Fam.barPos Fam.rides
  rw [show (Finset.univ : Finset (Fin 1)) = {0} from rfl, BI.bigSep_singleton, rights_eq, toks_eq, credit, nbs_eq]
  simp only [← invs_eq]
  unfold stock barTake rsTok agTok
  iintro ⟨⟨C1, CR, C33, CA⟩, ⟨⟨-, Hat, HrP, HrN⟩, HI, Hop, ⟨T0P, T0N, T1P, T1N⟩, TR0, TR1, TS0, TS1⟩⟩
  isplitl [HI]; · iexact HI
  isplitl [T0P T0N HrP HrN Hat C1]
  · isplitl [T0P]; · iexact T0P
    isplitl [T0N]; · iexact T0N
    isplitl [HrP]; · iexact HrP
    isplitl [HrN]; · iexact HrN
    isplitl [Hat]
    · iexact Hat
    iexact C1
  isplitl [TR0 TS0 CR]
  · isplitl [TR0]; · iexact TR0
    isplitl [TS0] <;> iassumption
  isplitl [T1P T1N C33 TR1 TS1 CA]
  · isplitl [T1P T1N C33]
    · isplitl [T1P]; · iexact T1P
      isplitl [T1N] <;> iassumption
    isplitl [TR1]; · iexact TR1
    isplitl [TS1] <;> iassumption
  iexact Hop

end Cert.KernelIdeal.Ring
-- ==== Proof.Records.lean ====
/-
  The two calls as segments of the program: between them each device holds its unscoped buffers at a valuation, and what the ring's
  launch dealt it rides along to the all-reduce.
-/
module

public import proofs.«01_k».proof.Proof.Attn
public import proofs.«01_k».proof.Proof.Talk
public import proofs.«01_k».proof.Proof.Deal
public import proofs.«01_k».proof.Proof.Gen.KernelIdeal.Regions
public import Idealize.ShloMosaic.Lib.Pipeline.RegionTalk
public import Idealize.ShloMosaic.Lib.Pipeline.RegionArraysS

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds
open Idealize.ShloMosaic.SiteBlocks Idealize.ShloMosaic.TalkSites
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## The buffers between the calls -/

/-- A device's partial result, which the ring sums. -/
def mine (c : Dev nD) : S1024x1024.Idx → Elt F .f32 := acc c (V1 m c) 7

/-- The unscoped buffers after the attention call, and after the all-reduce. -/
def A0 (c : Dev nD) : Valuation τ sig (Elt F) := Pipeline.afterRegion (dat0 c (V1 m c)) (V1 m c)
@[inherit_doc A0] def A1 (c : Dev nD) : Valuation τ sig (Elt F) := Pipeline.afterRegion (dat1 (mine m) c (A0 m c)) (A0 m c)

/-- The proof data of the two calls. -/
def pdats : (p : Fin 2) → (c : Dev nD) → Dat τ (Elt F) ℕ ℕ UU ℕ (cfgs p) c
  | 0, c => dat0 c (V1 m c)
  | 1, c => dat1 (mine m) c (A0 m c)

theorem arr0_out : (dat0 c (V1 m c)).arrAt 5 cfg0.N = mine m c := by
  refine (dat0 c (V1 m c)).arrAt_eq_of_after_last 5 t0_7 (by decide +kernel) _ fun j => ?_
  blk_simp
  dsimp only [dat0]
  rfl

theorem A0_17 : A0 m c (Proc.devRef .tc main_v17) = mine m c :=
  (Pipeline.afterRegion_arr (dat0 c (V1 m c)) (V1 m c) winFacts0.arr_inj 5).trans (arr0_out m c)
theorem A1_18 : A1 m c (Proc.devRef .tc main_v18) = gathered (full (mine m)) :=
  (Pipeline.afterRegion_arr (dat1 (mine m) c (A0 m c)) (A0 m c) winFacts1.arr_inj 1).trans (arr1_out (mine m) c (A0 m c))

/-! ## The level cut: both calls owe at indices of at least one, and their own windows' waits stand at zero -/

theorem due_cut {g : GSem nD τ sig} {i : ℕ} (h : 0 < tallyL (dueL c) g i) : i ∈ L NL g ∧ 0 < lv g i := by
  obtain ⟨x, hx, rfl, rfl⟩ := tallyL_pos h
  have key : x.1.1.2 = .tc ∧ 0 < x.2.1 ∧ x.2.1 < NL := by
    unfold dueL at hx
    rcases List.mem_append.mp hx with hx | hx
    · obtain ⟨h1, h2⟩ := barDue_at hx; exact ⟨h1, by rw [h2]; decide, by rw [h2]; decide⟩
    rcases List.mem_append.mp hx with hx | hx
    · obtain ⟨j, -, rfl⟩ := List.mem_map.mp hx
      have := j.isLt; exact ⟨rfl, by dsimp only; omega, by unfold NL; dsimp only; omega⟩
    rcases List.mem_append.mp hx with hx | hx
    · obtain ⟨h1, h2⟩ := barDue_at hx; exact ⟨h1, by rw [h2]; decide, by rw [h2]; decide⟩
    · obtain ⟨j, -, rfl⟩ := List.mem_map.mp hx
      have := j.isLt; exact ⟨rfl, by dsimp only; omega, by unfold NL; dsimp only; omega⟩
  exact ⟨mem_L' key.1 key.2.2, key.2.1⟩

/-! ## The attention call -/

/-- What rides beside the buffers up to the all-reduce. -/
def ride : sProp 𝕄 := iprop((∃ r, prngReg c r) ∗ stock (mine m) c)

set_option backward.isDefEq.respectTransparency.types false in
def reg0 : Pipeline.RegionSeg (pcfgs (F := F)) adm (pdats m) 0 defs₀ 𝒱₀ (L NL) lv 0 :=
  Pipeline.RegionSeg.ofHeldIn (pcfgs (F := F)) adm (pdats m) 0 defs₀ 𝒱₀ (L NL) lv 0 (fun c => tallyL (dueL c))
    (Pipeline.ucRefs τ sig) (fun _ => iprop(emp)) (fun _ => iprop(emp)) launch0.toP rfl (fun c => (body0 c (V1 m c)).loose)
    (fun _ _ => rfl) (fun _ => rfl) (fun c w => by show Dat.share (dat0 c (V1 m c)) w = fullShare; unfold Dat.share; split <;> rfl)
    (fun c => by
      show iprop(Pipeline.scopedRest spec0 c ∗ emp) ⊢ Pipeline.scopedRest spec0 c
      iintro ⟨H, -⟩; iexact H)
    (fun c => show Pipeline.scopedRest spec0 c ⊢ iprop(Pipeline.scopedRest spec0 c ∗ emp) from Entails.of_eq (BI.equiv_iff.mp sep_emp).symm)
    (fun _ => 0) ⟨fun c w s => mem_L c _ (by decide), fun _ _ _ => le_refl _, fun c g i h => due_cut c h⟩
    (ride m) (V1 m) (fun _ _ => rfl)

/-! ## The all-reduce -/

/-- The call's own counters: the send cell, then the receive cells. -/
def osem1 : Fin 32 → SemLoc sig := Fin.cases (.dma sendS) fun j => .dma (recvS j)

theorem osem1_facts : Pipeline.OwnSemFacts spec1 osem1 := by decide +kernel

theorem ownSems1_eq : (Pipeline.ownSems0 osem1 c : sProp 𝕄) = iprop(semVal (sendCell c) 0 ∗ all fun j => semVal (recvCell c j) 0) := by
  show (bigSep Finset.univ fun k : Fin 32 => (semVal ((c : Thread nD τ), osem1 k) 0 : sProp 𝕄)) = _
  rw [Fin.univ_succ, Finset.cons_eq_insert, BI.bigSep_insert (by simp [Fin.succ_ne_zero]), bigSep_map, all_eq]
  rfl

theorem open_recv (P : Dev nD → S1024x1024.Idx → Elt F .f32) (K : GSem nD τ sig → ℕ) :
    iprop(invs P K ∗ (all fun j => openTok ER (recvCell c j)) ∗ all fun j => semVal (recvCell c j) 0)
      ⊢ (|={Set.univ}=> all fun j => iprop(atPos ER (recvCell c j) 0 ∅ 0 ∗ reached ER (recvCell c j) 0) : sProp 𝕄) := by
  rw [← all_sep, all_eq, all_eq]
  refine (Transfers.bigSep_mono_pers Finset.univ (invs P K) _
    (fun j : Fin 31 => iprop(|={Set.univ}=> (atPos ER (recvCell c j) 0 ∅ 0 ∗ reached ER (recvCell c j) 0))) fun j _ => ?_).trans (bigSep_fupd Finset.univ fun j : Fin 31 => (iprop(atPos ER (recvCell c j) 0 ∅ 0 ∗ reached ER (recvCell c j) 0) : sProp 𝕄))
  iintro ⟨#HI, Ho, Hv⟩
  ihave #HIr := (inv_recv P K c j) $$ HI
  iapply (Rounds.cell_open ER (sched P) (κ := K (recvCell c j)) (Set.mem_univ _))
  isplitr; · iexact HIr
  isplitl [Ho] <;> iassumption

theorem arm : iprop(stock (mine m) c ∗ Pipeline.ownSems0 osem1 c ∗ levAts (L NL) lv) ⊢ (|={Set.univ}=> armed (mine m) c : sProp 𝕄) := by
  rw [ownSems1_eq]
  unfold stock rights armed opened
  iintro ⟨⟨⟨%K, #HI⟩, HB, HR, HA, ⟨HoS, HoV⟩⟩, ⟨HvS, HvV⟩, #Hlev⟩
  ihave #HIs := (inv_send (mine m) K c) $$ HI
  imod (Rounds.cell_open ER (sched (mine m)) (κ := K (sendCell c)) (Set.mem_univ _)) $$ [HoS HvS] with HS
  · isplitr; · iexact HIs
    isplitl [HoS] <;> iassumption
  imod (open_recv c (mine m) K) $$ [HoV HvV] with HV
  · isplitr; · iexact HI
    isplitl [HoV] <;> iassumption
  imodintro
  iexists K
  isplitr
  · isplitr; · iexact HI
    iexact Hlev
  isplitr [HA]
  · isplitl [HB]; · iexact HB
    isplitl [HR]; · iexact HR
    isplitl [HS] <;> iassumption
  iexact HA

set_option backward.isDefEq.respectTransparency.types false in
def reg1 : Pipeline.RegionSeg (pcfgs (F := F)) adm (pdats m) 0 defs₀ 𝒱₀ (L NL) lv 1 :=
  Pipeline.RegionSeg.ofTalk (pcfgs (F := F)) adm (pdats m) 0 defs₀ 𝒱₀ (L NL) lv 1 osem1 osem1_facts
    ∅ (Pipeline.ucRefs τ sig \ Pipeline.arrRefs spec1) (Finset.empty_subset _) launch1.toP rfl (fun c => (body1 (mine m) c (A0 m c) (A0_17 m c)).loose)
    (fun _ => 0) (fun c => tallyL (dueL c)) (fun c => (owed1_first (mine m) c (A0 m c)).trans (zero_add _).symm)
    (fun c => owed1_last (mine m) c (A0 m c)) (fun _ => rfl) (fun c w => by show Dat.share (dat1 (mine m) c (A0 m c)) w = fullShare; unfold Dat.share; split <;> rfl)
    (A0 m) (A1 m) (fun c b hb => by
      rw [Finset.sdiff_empty] at hb
      exact Pipeline.afterRegion_off (dat1 (mine m) c (A0 m c)) (A0 m c) (Pipeline.ucRefs τ sig) b hb)
    (fun c => stock (mine m) c) (fun c => semVal (barCell c) 0) (fun c => armed (mine m) c) (fun c => semVal (barCell c) 0)
    (arm m)
    (fun c => by
      show iprop(Pipeline.scopedRest spec1 c ∗ (∃ r, prngReg c r) ∗ StableHlo.held (c.tc : Thread nD τ) ∅ (A0 m c) ∗ armed (mine m) c)
        ⊢ iprop(armed (mine m) c ∗ Pipeline.scopedRest spec1 c ∗ ∃ r, prngReg c r)
      iintro ⟨Hs, Hp, -, Ha⟩
      isplitl [Ha]; · iexact Ha
      isplitl [Hs] <;> iassumption)
    (fun c => by
      show iprop(closed (F := F) c ∗ Pipeline.scopedRest spec1 c ∗ ∃ r, prngReg c r)
        ⊢ iprop(Pipeline.scopedRest spec1 c ∗ (∃ r, prngReg c r) ∗ StableHlo.held (c.tc : Thread nD τ) ∅ (A1 m c) ∗ Pipeline.ownSems0 osem1 c ∗ semVal (barCell c) 0)
      rw [ownSems1_eq, StableHlo.held, BI.bigSep_empty, show (iprop(BI.emp ∗ (semVal (sendCell c) 0 ∗ all fun j => semVal (recvCell c j) 0) ∗ semVal (barCell c) 0) : sProp 𝕄) = _ from BI.equiv_iff.mp emp_sep]
      unfold closed
      iintro ⟨⟨Hb, Hc⟩, Hs, Hp⟩
      isplitl [Hs]; · iexact Hs
      isplitl [Hp]; · iexact Hp
      isplitl [Hc] <;> iassumption)
    (fun c => by iintro H; imodintro; iexact H)
    (fun _ => 0)
    ⟨fun c w s => mem_L c _ (by decide), fun _ _ _ => le_refl _, fun c t g i h => by
      have e : (pdats m 1 c).owed t = if t.val = 0 then tallyL (dueL c) else 0 := rfl
      rw [e] at h
      split at h
      · exact due_cut c h
      · exact absurd h (Nat.lt_irrefl 0)⟩
    (fun _ => iprop(emp)) (fun _ _ => rfl)
    (fun c w => (Pipeline.afterRegion_arr (dat1 (mine m) c (A0 m c)) (A0 m c) winFacts1.arr_inj w).symm)

end Cert.KernelIdeal.Ring
-- ==== Proof.Run.lean ====
/-
  The run of the whole program over any float values: every weakly fair execution ends, on every device, with the arguments as
  launched, the result of the all-reduce laid out as the result, and every semaphore at zero.
-/
module

public import proofs.«01_k».proof.Proof.Records

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds
open Idealize.ShloMosaic.SiteBlocks Idealize.ShloMosaic.TalkSites
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## What rides beside the buffers -/

def before : sProp 𝕄 := iprop((∃ W, owes (c : Thread nD τ) (tallyL (dueL c)) W) ∗ emp ∗ ride m c)
@[inherit_doc before] def afterwards : sProp 𝕄 := iprop(semVal (barCell c) 0 ∗ ∃ W, owes (c : Thread nD τ) (0 : CellTallies nD τ sig ℕ) W)

/-- The unscoped buffers at the end. -/
def A2 (c : Dev nD) : Valuation τ sig (Elt F) := StableHlo.after hostOps2 (A1 m c)

def segLast : Pipeline.HostSeg (Ix := ℕ) (Name := ℕ) (U := UU) (Lvl := ℕ) (pcfgs (F := F)) defs₀ 𝒱₀ (L NL) lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (A1 m) (afterwards (F := F))

/-- The program's items on a device. -/
def items (c : Dev nD) : List (Pipeline.Seg (pcfgs (F := F)) adm (pdats m) 0 defs₀ 𝒱₀ (L NL) lv) :=
  [.host (seg0 m 𝒱₀ (L NL) lv (fun _ => before m) c), .region (reg0 m), .region (reg1 m), .host (segLast m)]

theorem arr0_sub : Pipeline.arrRefs (τ := τ) spec0 ⊆ Pipeline.ucRefs τ sig := by decide +kernel

theorem enter0 : iprop(StableHlo.held (c : Thread nD τ) (Pipeline.ucRefs τ sig) (V1 m c) ∗ before m c) ⊢ (reg0 m).pre c := by
  show _ ⊢ iprop(StableHlo.held (c.tc : Thread nD τ) (Pipeline.arrRefs spec0) (V1 m c) ∗ emp
    ∗ (StableHlo.held (c.tc : Thread nD τ) (Pipeline.ucRefs τ sig \ Pipeline.arrRefs spec0) (V1 m c) ∗ ride m c)
    ∗ ∃ Wd, owes (c : Thread nD τ) (tallyL (dueL c)) Wd)
  rw [StableHlo.held_sub_split (c.tc : Thread nD τ) arr0_sub (V1 m c)]
  unfold before
  iintro ⟨⟨Ha, Hu⟩, HO, -, Hr⟩
  isplitl [Ha]; · iexact Ha
  isplitr; · iempintro
  isplitl [Hu Hr]
  · isplitl [Hu] <;> iassumption
  iexact HO

theorem leave0 : (reg0 m).post c ⊢ iprop(StableHlo.held (c : Thread nD τ) (Pipeline.ucRefs τ sig) (A0 m c) ∗ before m c) := by
  show iprop(StableHlo.held (c.tc : Thread nD τ) (Pipeline.arrRefs spec0) (A0 m c) ∗ emp
    ∗ (StableHlo.held (c.tc : Thread nD τ) (Pipeline.ucRefs τ sig \ Pipeline.arrRefs spec0) (V1 m c) ∗ ride m c)
    ∗ ∃ Wd, owes (c : Thread nD τ) (tallyL (dueL c)) Wd) ⊢ _
  rw [StableHlo.held_sub_split (c.tc : Thread nD τ) arr0_sub (A0 m c),
    StableHlo.held_congr (c.tc : Thread nD τ) (V := A0 m c) (V' := V1 m c) (Pipeline.afterRegion_off (dat0 c (V1 m c)) (V1 m c) (Pipeline.ucRefs τ sig))]
  unfold before
  iintro ⟨Ha, -, ⟨Hu, Hr⟩, HO⟩
  isplitl [Ha Hu]
  · isplitl [Ha] <;> iassumption
  isplitl [HO]; · iexact HO
  isplitr; · iempintro
  iexact Hr

theorem arr1_sub : Pipeline.arrRefs (τ := τ) spec1 ⊆ Pipeline.ucRefs τ sig := by decide +kernel

theorem enter1 : iprop(StableHlo.held (c : Thread nD τ) (Pipeline.ucRefs τ sig) (A0 m c) ∗ before m c) ⊢ (reg1 m).pre c := by
  show _ ⊢ iprop(StableHlo.held (c.tc : Thread nD τ) (Pipeline.arrRefs spec1) (A0 m c) ∗ (∃ r, prngReg c r)
    ∗ (StableHlo.held (c.tc : Thread nD τ) (Pipeline.ucRefs τ sig \ Pipeline.arrRefs spec1) (A0 m c) ∗ emp) ∗ stock (mine m) c
    ∗ ∃ Wd, owes (c : Thread nD τ) (0 + tallyL (dueL c)) Wd)
  rw [StableHlo.held_sub_split (c.tc : Thread nD τ) arr1_sub (A0 m c), zero_add]
  unfold before ride
  iintro ⟨⟨Ha, Hu⟩, HO, -, Hp, Hs⟩
  isplitl [Ha]; · iexact Ha
  isplitl [Hp]; · iexact Hp
  isplitl [Hu]
  · isplitl [Hu]; · iexact Hu
    iempintro
  isplitl [Hs] <;> iassumption

theorem leave1 : (reg1 m).post c ⊢ iprop(StableHlo.held (c : Thread nD τ) (Pipeline.ucRefs τ sig) (A1 m c) ∗ afterwards c) := by
  show iprop(StableHlo.held (c.tc : Thread nD τ) (Pipeline.arrRefs spec1) (A1 m c) ∗ (∃ r, prngReg c r)
    ∗ (StableHlo.held (c.tc : Thread nD τ) (Pipeline.ucRefs τ sig \ Pipeline.arrRefs spec1) (A1 m c) ∗ emp) ∗ semVal (barCell c) 0
    ∗ ∃ Wd, owes (c : Thread nD τ) (0 : CellTallies nD τ sig ℕ) Wd) ⊢ _
  rw [StableHlo.held_sub_split (c.tc : Thread nD τ) arr1_sub (A1 m c)]
  unfold afterwards
  iintro ⟨Ha, -, ⟨Hu, -⟩, Hb, HO⟩
  isplitl [Ha Hu]
  · isplitl [Ha] <;> iassumption
  isplitl [Hb] <;> iassumption

/-! ## The launch -/

/-- The launch's ghost state: the staging cells' and the ring's. -/
def u₀ : UU :=
  (initOf (Pipeline.cells (Pipeline.pin (pcfgs (F := F)) adm) cellOf_inj) (Pipeline.launchToks (Pipeline.pin (pcfgs (F := F)) adm) cellOf_inj),
    launchOf fam.S fam.Sd fam.T)
def G : Dev nD → sProp 𝕄 := onDev 0 (BI.own (ER (launchOf fam.S fam.Sd fam.T)))

theorem unscoped_eq : ∀ sm : SemLoc sig, sm.isScoped .tc = false → sm = .reg barS := by decide

theorem counters_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The ring's part of the launch: every device's stock. -/
theorem deal : iprop((bigSep Finset.univ fun c : Dev nD => iprop(semVal (barCell c) 0 ∗ Pipeline.launchCred (fun d => tallyL (dueL d)) c)) ∗ bigSep Finset.univ G)
    ⊢ (|={Set.univ}=> bigSep Finset.univ fun c : Dev nD => stock (mine m) c : sProp 𝕄) := by
  have h := pass (fun d => tallyL (dueL d)) (fam.funds ER (sched (mine m)) (fun g _ h => h) nbs (Es := Set.univ))
  unfold Funds at h
  simp only [zero_add] at h
  rw [show bigSep Finset.univ G = BI.own (ER (launchOf fam.S fam.Sd fam.T)) from bigSep_onDev (0 : Dev nD) _]
  refine BIBase.Entails.trans h ?_
  refine fupd_mono ?_
  exact bigSep_mono fun c _ => stock_intro (mine m) c

theorem init : iprop((bigSep Finset.univ fun c : Dev nD => iprop(unscopedBufs c (fun b => m ((c.tc : Thread nD τ).loc b)) ∗ unscopedSems0 c
          ∗ owes (c.tc : Thread nD τ) (tallyL (dueL c)) ∅ ∗ Pipeline.launchCred (fun d => tallyL (dueL d)) c ∗ prngReg c (ρ c) ∗ G c)) ∗ levAts (L NL) lv)
      ⊢ (|={Set.univ}=> bigSep Finset.univ fun c : Dev nD => iprop(StableHlo.held (c : Thread nD τ) (Pipeline.ucRefs τ sig) (V0 m c) ∗ before m c) : sProp 𝕄) := by
  have hsplit : (bigSep Finset.univ fun c : Dev nD => iprop(unscopedBufs c (fun b => m ((c.tc : Thread nD τ).loc b)) ∗ unscopedSems0 c
          ∗ owes (c.tc : Thread nD τ) (tallyL (dueL c)) ∅ ∗ Pipeline.launchCred (fun d => tallyL (dueL d)) c ∗ prngReg c (ρ c) ∗ G c))
      ⊢ (iprop((bigSep Finset.univ fun c : Dev nD => iprop(StableHlo.held (c : Thread nD τ) (Pipeline.ucRefs τ sig) (V0 m c)
            ∗ owes (c.tc : Thread nD τ) (tallyL (dueL c)) ∅ ∗ prngReg c (ρ c)))
          ∗ (bigSep Finset.univ fun c : Dev nD => iprop(semVal (barCell c) 0 ∗ Pipeline.launchCred (fun d => tallyL (dueL d)) c)) ∗ bigSep Finset.univ G) : sProp 𝕄) := by
    rw [← bigSep_sep', ← bigSep_sep']
    exact bigSep_mono fun c _ => by
      rw [← Pipeline.unscopedBufs_held (Ix := ℕ) (Name := ℕ) (U := UU) (Lvl := ℕ) c (V0 m c), counters_eq]
      show (_ : sProp 𝕄) ⊢ _
      iintro ⟨Hb, Hs, HO, Hc, Hp, HG⟩
      isplitl [Hb HO Hp]
      · isplitl [Hb]; · iexact Hb
        isplitl [HO] <;> iassumption
      isplitl [Hs Hc]
      · isplitl [Hs] <;> iassumption
      iexact HG
  have hjoin : (iprop((bigSep Finset.univ fun c : Dev nD => iprop(StableHlo.held (c : Thread nD τ) (Pipeline.ucRefs τ sig) (V0 m c)
            ∗ owes (c.tc : Thread nD τ) (tallyL (dueL c)) ∅ ∗ prngReg c (ρ c))) ∗ bigSep Finset.univ fun c : Dev nD => stock (mine m) c) : sProp 𝕄)
      ⊢ bigSep Finset.univ fun c : Dev nD => iprop(StableHlo.held (c : Thread nD τ) (Pipeline.ucRefs τ sig) (V0 m c) ∗ before m c) := by
    rw [← bigSep_sep']
    exact bigSep_mono fun c _ => by
      show (_ : sProp 𝕄) ⊢ _
      unfold before ride
      iintro ⟨⟨Hb, HO, Hp⟩, Hs⟩
      isplitl [Hb]; · iexact Hb
      isplitl [HO]; · iexists ∅; iexact HO
      isplitr; · iempintro
      isplitl [Hp]; · iexists (ρ c); iexact Hp
      iexact Hs
  iintro ⟨H, -⟩
  ihave H := hsplit $$ H
  icases H with ⟨HB, HR⟩
  imod (deal m) $$ HR with HS
  imodintro
  iapply hjoin
  isplitl [HB] <;> iassumption

/-! ## The run -/

/-- An argument at the end: nothing writes it. -/
theorem A2_of (r : Ref sig .tc) (h2 : r ∉ hostOps2_W) (h0 : r ∉ hostOps0_W) (k1 : ∀ w, Pipeline.arrRef spec1 w = r → (cfg1.win w).isOut = false)
    (k0 : ∀ w, Pipeline.arrRef spec0 w = r → (cfg0.win w).isOut = false) : A2 m c r = m ((c : Thread nD τ).loc r) :=
  (StableHlo.after_of_writes_sub hostOps2 _ hostOps2_writes h2).trans <|
    (Pipeline.afterRegion_keeps (dat1 (mine m) c (A0 m c)) (A0 m c) winFacts1.arr_inj (fun _ => rfl) r k1).trans <|
    (Pipeline.afterRegion_keeps (dat0 c (V1 m c)) (V1 m c) winFacts0.arr_inj (fun _ => rfl) r k0).trans <| (V1_of m c r h0).trans rfl

/-- What a device's memory holds at the end. -/
def Ends (c : Dev nD) (μ : (ℓ : Loc nD τ sig) → Buf (Elt F) ℓ) : Prop :=
  μ ((c.tc : Thread nD τ).loc main_v19) = A2 m c main_v19
  ∧ μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)

set_option backward.isDefEq.respectTransparency.types false in
theorem run_main : θ_run defs (onTc (τ := τ) (main (F := F))) ⟨m, fun _ => 0, ρ⟩ (fun r => (∀ c : Dev nD, Ends m c r.2.mem) ∧ r.2.sem = fun _ => 0) :=
  Pipeline.θ_run_regions_kit_dev_sems (pcfgs (F := F)) adm (pdats m) 0 cellOf_inj EP defs₀ 𝒱₀ (L NL) lv m ρ main (items m)
    (fun c Q => by
      rewrite [main_chain c, Pipeline.Seg.run_eq_chain,
        show (items m c).map Pipeline.Seg.prog = [
          StableHlo.seq (hostOps0 c),
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Pipeline.Seg.pipes_host, Pipeline.Seg.pipes_region, Pipeline.Seg.pipes_nil]; decide)
    (O₀ := fun d => tallyL (dueL d)) (hL := SiteBlocks.hL NL) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (Pipeline.ucRefs τ sig) (V0 m c) ∗ before m c))
    (Tₙ := fun c => iprop(StableHlo.held (c : Thread nD τ) (Pipeline.ucRefs τ sig) (A2 m c) ∗ semVal (barCell c) 0))
    (hch := fun c => by
      refine ⟨.rfl, enter0 m c, (leave0 m c).trans (enter1 m c), leave1 m c, ?_⟩
      show iprop(StableHlo.held (c : Thread nD τ) (Pipeline.ucRefs τ sig) (A2 m c) ∗ afterwards c)
        ⊢ iprop((StableHlo.held (c : Thread nD τ) (Pipeline.ucRefs τ sig) (A2 m c) ∗ semVal (barCell c) 0)
          ∗ ∃ W, owes (c : Thread nD τ) (0 : CellTallies nD τ sig ℕ) W)
      unfold afterwards
      iintro ⟨Hh, Hb, HO⟩
      isplitr [HO]
      · isplitl [Hh] <;> iassumption
      iexact HO)
    (hinit := init m ρ)
    (QY := fun c s => Ends m c s.mem ∧ s.sem (barCell c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (A2 m c) s') $$ [Hh HSI]
      · isplitl [Hh] <;> iassumption
      icases Hr with ⟨%h, HSI⟩
      imodintro
      isplitr
      · ipureintro
        exact ⟨⟨h (Proc.devRef .tc main_v19) (Finset.mem_filter.mpr ⟨StableHlo.devRef_mem_tcRefs main_v19, by decide⟩),
          (h (Proc.devRef .tc main_arg0) (Finset.mem_filter.mpr ⟨StableHlo.devRef_mem_tcRefs main_arg0, by decide⟩)).trans (A2_of m c main_arg0 (by decide) (by decide) (by decide) (by decide)),
          (h (Proc.devRef .tc main_arg1) (Finset.mem_filter.mpr ⟨StableHlo.devRef_mem_tcRefs main_arg1, by decide⟩)).trans (A2_of m c main_arg1 (by decide) (by decide) (by decide) (by decide)),
          (h (Proc.devRef .tc main_arg2) (Finset.mem_filter.mpr ⟨StableHlo.devRef_mem_tcRefs main_arg2, by decide⟩)).trans (A2_of m c main_arg2 (by decide) (by decide) (by decide) (by decide)),
          (h (Proc.devRef .tc main_arg3) (Finset.mem_filter.mpr ⟨StableHlo.devRef_mem_tcRefs main_arg3, by decide⟩)).trans (A2_of m c main_arg3 (by decide) (by decide) (by decide) (by decide)),
          (h (Proc.devRef .tc main_arg4) (Finset.mem_filter.mpr ⟨StableHlo.devRef_mem_tcRefs main_arg4, by decide⟩)).trans (A2_of m c main_arg4 (by decide) (by decide) (by decide) (by decide))⟩,
          by simpa using hb⟩
      iexact HSI)
    (hQ := fun s h hs => ⟨fun c => (h c).1, sem_eq_zero hs fun c sm hsm => by
      obtain rfl := unscoped_eq sm hsm
      exact (h c).2⟩)

end Cert.KernelIdeal.Ring
-- ==== Proof.Frames.lean ====
/-
  The three frame claims: each program ends with its arguments as launched and every semaphore at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)

/-- The two printings of the kernel have the same kernel bodies, label by label … -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun ⟨_, _⟩ => rfl
  | 1 => exact funext fun ⟨_, _⟩ => rfl
  | ⟨_ + 2, h⟩ => exact absurd h (Nat.not_lt.2 (Nat.le_add_left _ _))

/-- … hence the same table with the launches. -/
theorem defs_eq : Cert.Kernel.defs (F := Bits) = Cert.KernelIdeal.defs (F := Bits) :=
  congrArg (Pipeline.defs (Cert.KernelIdeal.pcfgs (F := Bits))) bodies_eq

theorem frame_kernel : Cert.quiescent_Kernel := by
  intro m ρ _
  rw [defs_eq]
  exact (θ_run Cert.KernelIdeal.defs _ _).mono (fun _ h => ⟨fun c => (h.1 c).2, h.2⟩)
    (Cert.KernelIdeal.Ring.run_main (F := Bits) m ρ)

theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run (F := Ideal) m ρ)

end Cert.Proof
-- ==== Proof.Blocks.lean ====
/-
  What the attention call reads: at grid point `h` of device `c`, the input and head `8 c + h` of the weights, the keys and
  the values, each read from the device's arguments.
-/
module

public import proofs.«01_k».proof.Proof.Records
public import Idealize.ShloMosaic.Lib.ValueIdx
public import Idealize.ShloMosaic.Lib.DynamicIndex
public import Idealize.ShloMosaic.Lib.Pipeline.Value

@[expose] public section

noncomputable section

namespace Cert.KernelIdeal.Ring

open Idealize.ShloMosaic Idealize.ShloMosaic.TcCoe Idealize.ShloMosaic.ValueIdx
open Idealize.SL.Sem
open Idealize.ShloMosaic.Pipeline Idealize.ShloMosaic.StableHlo
open Cert.KernelIdeal Cert.KernelIdeal.Gen

variable {F : FTy → Type} [FloatOps F]

variable (m : (ℓ : Loc nD τ sig) → Buf (Elt F) ℓ) (c : Dev nD)

/-! ## The host's slices -/

/-- The word the host computes the device's first column from, and the offset it slices at. -/
def posWord (c : Dev nD) : BitVec 32 := IntOp.muli (IntOp.remui .host (IntOp.divui .host (Dev.word c) 1#32) 32#32) 1024#32
@[inherit_doc posWord] def offWord (c : Dev nD) : BitVec 32 := Scalar.select (IntOp.cmpi .slt (posWord c) 0#32) (IntOp.addi (posWord c) 32768#32) (posWord c)

theorem offWord_toInt : ∀ c : Dev nD, (offWord c).toInt = ((1024 * c.val : ℕ) : ℤ) := by decide +kernel

/-- Column `n` of the device's 1024 among all 32768. -/
def wide (c : Dev nD) (n : Fin 1024) : Fin 32768 := ⟨1024 * c.val + n.val, by have : c.val < 32 := c.isLt; omega⟩

theorem slices_cols (c : Dev nD) : S1024x32768.Slices ![0, 1024 * c.val] S1024x1024 := by
  have : c.val < 32 := c.isLt
  exact ⟨rfl, fun a => by fin_cases a; exacts [(by decide : 0 + 1024 ≤ 1024), (by show 1024 * c.val + 1024 ≤ 32768; omega)]⟩
theorem slices_rows (c : Dev nD) : S32768x1024.Slices ![1024 * c.val, 0] S1024x1024 := by
  have : c.val < 32 := c.isLt
  exact ⟨rfl, fun a => by fin_cases a; exacts [(by show 1024 * c.val + 1024 ≤ 32768; omega), (by decide : 0 + 1024 ≤ 1024)]⟩

theorem V1_9 (t n : Fin 1024) : V1 m c (Proc.devRef .tc main_v9) (ix2 t n) = m ((c : Thread nD τ).loc main_arg1) (ix2 t (wide c n)) := by
  unfold V1
  after_results
  refine (congrFun (Host.dynamicSlice_eq_extractStridedSlice S1024x1024 _ _ ![0, 1024 * c.val] _ (slices_cols c)
    (fun a => by
      fin_cases a
      · after_results
        rfl
      · after_results
        exact offWord_toInt c)) (ix2 t n)).trans ?_
  exact extractStridedSlice_apply _ _ _ _ (ix2 t (wide c n)) (fun a => by
    fin_cases a; exacts [(Nat.zero_add _).symm, rfl])

theorem V1_14 (n t : Fin 1024) : V1 m c (Proc.devRef .tc main_v14) (ix2 n t) = m ((c : Thread nD τ).loc main_arg4) (ix2 (wide c n) t) := by
  unfold V1
  after_results
  refine (congrFun (Host.dynamicSlice_eq_extractStridedSlice S1024x1024 _ _ ![1024 * c.val, 0] _ (slices_rows c)
    (fun a => by
      fin_cases a
      · after_results
        exact offWord_toInt c
      · after_results
        rfl)) (ix2 n t)).trans ?_
  exact extractStridedSlice_apply _ _ _ _ (ix2 (wide c n) t) (fun a => by
    fin_cases a; exacts [rfl, (Nat.zero_add _).symm])

/-! ## The keys and the values, their heads side by side -/

/-- Which of the device's eight heads column `n` belongs to, and its place there. -/
def hd (n : Fin 1024) : Fin 8 := ⟨n.val / 128, by omega⟩
@[inherit_doc hd] def hc (n : Fin 1024) : Fin 128 := ⟨n.val % 128, by omega⟩

theorem heads_apply {α : Type} (x : S1x1024x8x128.Idx → α) (j n : Fin 1024) :
    shapeCast S1024x1024 x shapeCasts_S1x1024x8x128_S1024x1024 (ix2 j n) = x (ix4 (0 : Fin 1) j (hd n) (hc n)) :=
  shapeCast_apply x _ _ _ (by
    rw [Shape.rowMajor_val_four, Shape.rowMajor_val_two]
    show (((0 : ℕ) * 1024 + j.val) * 8 + n.val / 128) * 128 + n.val % 128 = j.val * 1024 + n.val
    omega)

theorem V1_15 (j n : Fin 1024) :
    V1 m c (Proc.devRef .tc main_v15) (ix2 j n) = m ((c : Thread nD τ).loc main_arg2) (ix4 (0 : Fin 1) j (hd n) (hc n)) := by
  unfold V1
  after_results
  exact heads_apply _ j n

theorem V1_16 (j n : Fin 1024) :
    V1 m c (Proc.devRef .tc main_v16) (ix2 j n) = m ((c : Thread nD τ).loc main_arg3) (ix4 (0 : Fin 1) j (hd n) (hc n)) := by
  unfold V1
  after_results
  exact heads_apply _ j n

/-! ## The blocks the call reads -/

theorem at0 : ∀ h : Fin 8, (cfg0.win 0).index (pt h.val) = ![0, 0, 0] := by decide +kernel
theorem at1 : ∀ h : Fin 8, (cfg0.win 1).index (pt h.val) = ![0, h.val] := by decide +kernel
theorem at2 : ∀ h : Fin 8, (cfg0.win 2).index (pt h.val) = ![0, h.val] := by decide +kernel
theorem at3 : ∀ h : Fin 8, (cfg0.win 3).index (pt h.val) = ![0, h.val] := by decide +kernel
theorem at4 : ∀ h : Fin 8, (cfg0.win 4).index (pt h.val) = ![h.val, 0] := by decide +kernel

/-- Place `e` of the device's head `h` among its 1024 columns. -/
def packed (h : Fin 8) (e : Fin 128) : Fin 1024 := ⟨h.val * 128 + e.val, by omega⟩

theorem hd_packed (h : Fin 8) (e : Fin 128) : hd (packed h e) = h := Fin.ext (by show (h.val * 128 + e.val) / 128 = h.val; omega)
theorem hc_packed (h : Fin 8) (e : Fin 128) : hc (packed h e) = e := Fin.ext (by show (h.val * 128 + e.val) % 128 = e.val; omega)

variable (V : Valuation τ sig (Elt F)) (h : Fin 8)

theorem blk0_0 (r t : Fin 1024) : blk0 c V 0 (pt h.val) (ix3 (0 : Fin 1) r t) = V (Proc.devRef .tc main_arg0) (ix3 (0 : Fin 1) r t) := by
  blk_ext [blk0, arr0, at0 h]

theorem blk0_1 (t : Fin 1024) (e : Fin 128) : blk0 c V 1 (pt h.val) (ix2 t e) = V (Proc.devRef .tc main_v9) (ix2 t (packed h e)) := by
  blk_ext [blk0, arr0, at1 h]
  rfl

theorem blk0_2 (t : Fin 1024) (e : Fin 128) : blk0 c V 2 (pt h.val) (ix2 t e) = V (Proc.devRef .tc main_v15) (ix2 t (packed h e)) := by
  blk_ext [blk0, arr0, at2 h]
  rfl

theorem blk0_3 (t : Fin 1024) (e : Fin 128) : blk0 c V 3 (pt h.val) (ix2 t e) = V (Proc.devRef .tc main_v16) (ix2 t (packed h e)) := by
  blk_ext [blk0, arr0, at3 h]
  rfl

theorem blk0_4 (e : Fin 128) (t : Fin 1024) : blk0 c V 4 (pt h.val) (ix2 e t) = V (Proc.devRef .tc main_v14) (ix2 (packed h e) t) := by
  blk_ext [blk0, arr0, at4 h]
  rfl

end Cert.KernelIdeal.Ring
-- ==== Proof.Sum.lean ====
/-
  Over the extended reals the ring's order of addition does not matter: every chunk of the result is the sum of the 32
  partial results.  The sum over all 32768 columns of the heads, in turn, is a sum over the devices, their heads and a
  head's columns.
-/
module

public import proofs.«01_k».proof.Proof.Chunks
public import proofs.«01_k».proof.Proof.Attn
public import Idealize.ShloMosaic.Lib.ValueIdx
public import Idealize.ShloMosaic.Lib.Pipeline.Value

@[expose] public section

noncomputable section

namespace Cert.KernelIdeal.Ring

open Idealize.ShloMosaic Idealize.ShloMosaic.TcCoe
open Idealize.SL.Sem
open Cert.KernelIdeal Cert.KernelIdeal.Gen
open scoped BigOperators

/-! ## Around the ring -/

variable (P : Dev nD → S1024x1024.Idx → Elt Ideal .f32)

theorem ringSum_apply (j : ℕ) (hj : j ≤ 31) (c : Dev nD) (i : S32x1024.Idx) :
    ringSum P j c i = ∑ k ∈ Finset.range (j + 1), blk (P (back c k)) (back c j) i := by
  induction j generalizing c with
  | zero => rw [Finset.sum_range_one, back_zero]; rfl
  | succ j ih =>
    have hp : ∀ k, k ≤ j → back (prv c) k = back c (k + 1) := fun k hk => Fin.ext (by
      show ((c.val + 31) % 32 + 64 - k) % 32 = (c.val + 64 - (k + 1)) % 32
      have := dev_lt c
      omega)
    rw [Finset.sum_range_succ', back_zero]
    refine Eq.trans ?_ (add_comm _ _)
    refine congrArg (blk (P c) (back c (j + 1)) i + ·) ((ih (by omega) (prv c)).trans (Finset.sum_congr rfl fun k hk => ?_))
    rw [hp k (by have := Finset.mem_range.1 hk; omega), hp j le_rfl]

/-- Going back 0, 1, ..., 31 places from a device meets every device once. -/
theorem back_bijective (c : Dev nD) : Function.Bijective (fun k : Fin 32 => back c k.val) := by
  refine (Finite.injective_iff_bijective (α := Fin 32) (f := fun k : Fin 32 => back c k.val)).1 fun a b h => Fin.ext ?_
  have h' : (c.val + 64 - a.val) % 32 = (c.val + 64 - b.val) % 32 := congrArg Fin.val h
  omega

theorem full_apply (k : Dev nD) (i : S32x1024.Idx) : full P k i = ∑ d : Dev nD, blk (P d) k i := by
  have hk : back (prv k) 31 = k := Fin.ext (by
    show ((k.val + 31) % 32 + 64 - 31) % 32 = k.val
    have := dev_lt k
    omega)
  unfold full
  rw [ringSum_apply P 31 le_rfl, hk, Finset.sum_range]
  exact Fintype.sum_bijective _ (back_bijective (prv k)) _ _ fun _ => rfl

/-- The all-reduce, over the extended reals. -/
theorem gathered_full (i : S1024x1024.Idx) : gathered (full P) i = ∑ d : Dev nD, P d i := by
  refine (full_apply P (chunkOf i) (inChunk i)).trans (Finset.sum_congr rfl fun d _ => ?_)
  exact congrFun (gathered_blk (P d)) i

/-! ## Over a device's heads -/

theorem acc_apply (c : Dev nD) (V : Valuation τ sig (Elt Ideal)) (n : ℕ) (i : S1024x1024.Idx) :
    acc c V n i = ∑ h ∈ Finset.range (n + 1), part c V h i := by
  induction n with
  | zero => rw [Finset.sum_range_one]; rfl
  | succ n ih =>
    rw [Finset.sum_range_succ, ← ih]
    show shapeCast S1024x1024 (acc c V n) shapeCasts_S1024x1024_S1024x1024 i + part c V (n + 1) i = _
    rw [shapeCast_self]

/-! ## Over all heads -/

theorem sum_pairs {a b : ℕ} (f : Fin (a * b) → EReal) : ∑ n, f n = ∑ i : Fin a, ∑ j : Fin b, f (finProdFinEquiv (i, j)) := by
  rw [← Equiv.sum_comp finProdFinEquiv f, Fintype.sum_prod_type]

/-- Head `h` of device `d` among all 256. -/
def glob (d : Dev nD) (h : Fin 8) : Fin 256 := ⟨d.val * 8 + h.val, by have := dev_lt d; omega⟩

theorem sum_heads (f : Fin 32768 → EReal) (g : Fin 256 → Fin 128 → EReal)
    (hfg : ∀ H e, f ⟨H.val * 128 + e.val, by omega⟩ = g H e) : ∑ n, f n = ∑ d : Dev nD, ∑ h : Fin 8, ∑ e : Fin 128, g (glob d h) e := by
  refine (sum_pairs (a := 256) (b := 128) f).trans ?_
  refine Eq.trans (Finset.sum_congr rfl fun H _ => Finset.sum_congr rfl fun e _ => ?_) (sum_pairs (a := 32) (b := 8) fun H => ∑ e, g H e) |>.trans ?_
  · refine (congrArg f (Fin.ext ?_)).trans (hfg H e)
    show e.val + 128 * H.val = H.val * 128 + e.val
    omega
  · refine Finset.sum_congr rfl fun d _ => Finset.sum_congr rfl fun h _ => Finset.sum_congr rfl fun e _ => congrArg (g · e) (Fin.ext ?_)
    show h.val + 8 * d.val = d.val * 8 + h.val
    omega

end Cert.KernelIdeal.Ring
-- ==== Proof.Heads.lean ====
/-
  One head of block-causal attention over the extended reals, and the attention kernel's grid point read as it: the
  queries are a product of the input with a column block of the query weights, a query row sees the key rows of its own
  block of 64 and of the earlier ones, and the head's outputs are multiplied into the rows of the output weights.
-/
module

public import proofs.«01_k».proof.Proof.Attn
public import Idealize.ShloMosaic.PureOps.Ideal.Laws
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.KernelIdeal.Ring

open Idealize.ShloMosaic Idealize.ShloMosaic.ValueIdx
open Cert.KernelIdeal Cert.KernelIdeal.Gen
open scoped BigOperators

/-! ## The head -/

/-- The factor on the scores. -/
def scale : EReal := Ideal.ofBits .f32 0x3DB504F3#32
/-- The score of a key that a query does not see. -/
def hidden : EReal := Ideal.ofBits .f32 0xCE6E6B28#32

/-- The score of query row `r` against key row `j`. -/
def score (Q K : Fin 1024 → Fin 128 → EReal) (r j : Fin 1024) : EReal := if j.val / 64 ≤ r.val / 64 then (∑ e, Q r e * K j e) * scale else hidden
/-- The largest entry of a row of scores. -/
def top (s : Fin 1024 → EReal) : EReal := (Finset.univ : Finset (Fin 1024)).fold max (Ideal.ofBits .f32 0xFF800000#32) s
/-- The weights of a row of scores. -/
def weight (s : Fin 1024 → EReal) (j : Fin 1024) : EReal := Ideal.div (Ideal.exp (s j - top s)) (∑ j', Ideal.exp (s j' - top s))
/-- The head's output: the weighted sum of the value rows. -/
def head (Q K V : Fin 1024 → Fin 128 → EReal) (r : Fin 1024) (e : Fin 128) : EReal := ∑ j, weight (score Q K r) j * V j e

/-! ## The kernel's block indices -/

/-- The kernel's division of a word by 64, rounded down. -/
def blockWord (w : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt 64#32 0#32)) (Scalar.extui (Scalar.cmpi .slt 64#32 0#32)))) (IntOp.cmpi .ne (IntOp.remsi .vector w 64#32) 0#32))
    (IntOp.subi (IntOp.divsi .vector w 64#32) 1#32) (IntOp.divsi .vector w 64#32)

theorem blockWord_ofNat : ∀ n : Fin 1024, blockWord (BitVec.ofNat 32 n.val) = BitVec.ofNat 32 (n.val / 64) := by decide +kernel

theorem sle_block : ∀ a b : Fin 16, IntOp.cmpi .sle (BitVec.ofNat 32 a.val) (BitVec.ofNat 32 b.val) = if a.val ≤ b.val then 1#1 else 0#1 := by decide +kernel

theorem sees (r j : Fin 1024) : IntOp.cmpi .sle (BitVec.ofNat 32 (j.val / 64)) (BitVec.ofNat 32 (r.val / 64)) = if j.val / 64 ≤ r.val / 64 then 1#1 else 0#1 :=
  sle_block ⟨j.val / 64, by omega⟩ ⟨r.val / 64, by omega⟩

/-- The kernel's mask: which keys a query sees. -/
def mask : IVec S1024x1024 1 :=
  cmpi .sle (fun i => blockWord (iota .tc S1024x1024 32 [1] iota_S1024x1024_d1_w32 i)) (fun i => blockWord (iota .tc S1024x1024 32 [0] iota_S1024x1024_d0_w32 i))

theorem mask_apply (r j : Fin 1024) : mask (ix2 r j) = if j.val / 64 ≤ r.val / 64 then 1#1 else 0#1 := by
  have h0 : iota .tc S1024x1024 32 [0] iota_S1024x1024_d0_w32 (ix2 r j) = BitVec.ofNat 32 r.val := by
    show BitVec.ofNat 32 (0 * 1024 + r.val) = _; rw [Nat.zero_mul, Nat.zero_add]
  have h1 : iota .tc S1024x1024 32 [1] iota_S1024x1024_d1_w32 (ix2 r j) = BitVec.ofNat 32 j.val := by
    show BitVec.ofNat 32 (0 * 1024 + j.val) = _; rw [Nat.zero_mul, Nat.zero_add]
  show IntOp.cmpi .sle (blockWord _) (blockWord _) = _
  rw [h0, h1, blockWord_ofNat, blockWord_ofNat, sees]

/-! ## The weights of a matrix of scores -/

/-- A row's value repeated along the row. -/
def alongRow (x : FVec Ideal S1024 .f32) : FVec Ideal S1024x1024 .f32 :=
  broadcastTo S1024x1024 (shapeCast S1024x1 x shapeCasts_S1024_S1024x1) broadcasts_S1024x1_S1024x1024

theorem alongRow_apply (x : FVec Ideal S1024 .f32) (r j : Fin 1024) : alongRow x (ix2 r j) = x (ix1 r) := by
  unfold alongRow
  rw [broadcastTo_apply _ _ (ix2 r j) (ix2 r (0 : Fin 1)) (fun a => match a with | ⟨0, _⟩ => rfl | ⟨1, _⟩ => rfl),
    shapeCast_apply x _ (ix2 r (0 : Fin 1)) (ix1 r) (by rw [Shape.rowMajor_val_one, Shape.rowMajor_val_two]; show r.val = r.val * 1 + 0; omega)]

/-- The exponentials of the scores less their row's largest, and the weights. -/
def expS (s : FVec Ideal S1024x1024 .f32) : FVec Ideal S1024x1024 .f32 :=
  exp (subf s (alongRow (multiReduction .maximumf [1] S1024 s 0xFF800000#32 reduces_S1024x1024_S1024 (.inl rfl) rfl)))
@[inherit_doc expS] def weightS (s : FVec Ideal S1024x1024 .f32) : FVec Ideal S1024x1024 .f32 :=
  divf (expS s) (alongRow (multiReduction .add [1] S1024 (expS s) 0x00000000#32 reduces_S1024x1024_S1024 (.inl rfl) rfl))

theorem lift_row (r j : Fin 1024) : (reduces_S1024x1024_S1024 : Shape.Reduces S1024x1024 [1] S1024).lift (ix1 r) j = ix2 r j :=
  funext fun a => Fin.ext (match a with | ⟨0, _⟩ => rfl | ⟨1, _⟩ => rfl)

theorem expS_apply (s : FVec Ideal S1024x1024 .f32) (r j : Fin 1024) :
    expS s (ix2 r j) = Ideal.exp (s (ix2 r j) - top fun j' => s (ix2 r j')) := by
  show Ideal.exp (s (ix2 r j) - alongRow _ (ix2 r j)) = _
  rw [alongRow_apply]
  refine congrArg (fun y => Ideal.exp (s (ix2 r j) - y)) ((Ideal.multiReduction_maximumf_single s 0xFF800000#32 reduces_S1024x1024_S1024 (.inl rfl) rfl (ix1 r)).trans
    (congrArg (fun f => (Finset.univ : Finset (Fin 1024)).fold max (Ideal.ofBits .f32 0xFF800000#32) f) ?_))
  exact funext fun k => congrArg s (lift_row r k)

theorem weightS_apply (s : FVec Ideal S1024x1024 .f32) (r j : Fin 1024) : weightS s (ix2 r j) = weight (fun j' => s (ix2 r j')) j := by
  show Ideal.div (expS s (ix2 r j)) (alongRow _ (ix2 r j)) = _
  rw [alongRow_apply, expS_apply]
  refine congrArg (Ideal.div _) ((Ideal.multiReduction_add_single (expS s) 0x00000000#32 reduces_S1024x1024_S1024 (.inl rfl) rfl (ix1 r)).trans (Finset.sum_congr rfl fun k _ => ?_))
  exact (congrArg (expS s) (lift_row r k)).trans (expS_apply s r k)

/-! ## The contribution of a grid point -/

section
variable (x : S1x1024x1024.Idx → Elt Ideal .f32) (q k v : S1024x128.Idx → Elt Ideal .f32) (o : S128x1024.Idx → Elt Ideal .f32)

/-- The queries of a head. -/
def queries (r : Fin 1024) (e : Fin 128) : EReal := ∑ t : Fin 1024, x (ix3 (0 : Fin 1) r t) * q (ix2 t e)

theorem zero_word {s : Shape} (i : s.Idx) : constant (F := Ideal) s .f32 0x00000000#32 i = (0 : EReal) := Ideal.ofBits_zero_f32

theorem scaled_apply (r j : Fin 1024) : k0_pay2 (F := Ideal) x q k (ix2 r j) = (∑ e, queries x q r e * k (ix2 j e)) * scale := by
  have h1 : ∀ r e, matmul (F := Ideal) dot_S1024x1024_S1024x128_S1024x128_1_0_0_1_n_n none (shapeCast S1024x1024 x shapeCasts_S1x1024x1024_S1024x1024) q (constant S1024x128 .f32 0x00000000#32) (ix2 r e)
      = queries x q r e := fun r e => by
    refine (Ideal.matmul_plain_apply (M := 1024) (K := 1024) (N := 128) none _ _ _ r e).trans ?_
    rw [zero_word, zero_add]
    exact Finset.sum_congr rfl fun t _ => congrArg (· * q (ix2 t e)) (shapeCast_1ab_ab_apply x _ r t)
  unfold k0_pay2
  simp only [shapeCast_self]
  show matmul (F := Ideal) dot_S1024x128_S1024x128_S1024x1024_1_1_0_0_n_n none _ k _ (ix2 r j) * scale = _
  refine congrArg (· * scale) ?_
  refine (Ideal.matmul_transposedRhs_apply (M := 1024) (K := 128) (N := 1024) none _ _ _ r j).trans ?_
  rw [zero_word, zero_add]
  exact Finset.sum_congr rfl fun e _ => congrArg (· * k (ix2 j e)) (h1 r e)

theorem contrib_eq : contrib (F := Ideal) x q k v o
    = matmul (φ₂ := .f32) dot_S1024x128_S128x1024_S1024x1024_1_0_0_1_n_n none
        (matmul (φ₂ := .f32) dot_S1024x1024_S1024x128_S1024x128_1_0_0_1_n_n none (weightS (select mask (k0_pay2 (F := Ideal) x q k) (broadcast S1024x1024 (hidden : Elt Ideal .f32)))) v (constant S1024x128 .f32 0x00000000#32))
        o (constant S1024x1024 .f32 0x00000000#32) := by
  unfold contrib k0_pay6
  generalize k0_pay2 (F := Ideal) x q k = s
  simp only [shapeCast_self]
  rfl

theorem contrib_apply (r c : Fin 1024) :
    contrib (F := Ideal) x q k v o (ix2 r c) = ∑ e : Fin 128, head (queries x q) (fun j e => k (ix2 j e)) (fun j e => v (ix2 j e)) r e * o (ix2 e c) := by
  rw [contrib_eq]
  refine (Ideal.matmul_plain_apply (M := 1024) (K := 128) (N := 1024) none _ _ _ r c).trans ?_
  rw [zero_word, zero_add]
  refine Finset.sum_congr rfl fun e _ => congrArg (· * o (ix2 e c)) ?_
  refine (Ideal.matmul_plain_apply (M := 1024) (K := 1024) (N := 128) none _ _ _ r e).trans ?_
  rw [zero_word, zero_add]
  refine Finset.sum_congr rfl fun j _ => congrArg (· * v (ix2 j e)) ?_
  rw [weightS_apply]
  refine congrArg (fun s => weight s j) (funext fun j' => ?_)
  rw [select_apply, mask_apply, scaled_apply]
  unfold score
  split
  · exact select_one _ _
  · exact select_zero _ _

end

end Cert.KernelIdeal.Ring
-- ==== Proof.RefHeads.lean ====
/-
  The reference over the extended reals: each of its results is the sum, over the 256 heads and their 128 output columns,
  of the head's output times the entry of the output weights.
-/
module

public import proofs.«01_k».proof.Proof.Heads
public import proofs.«01_k».proof.Proof.Gen.ReferenceIdeal.Read

@[expose] public section

noncomputable section

namespace Cert.ReferenceIdeal.Heads

open Idealize.ShloMosaic Idealize.ShloMosaic.ValueIdx
open Cert.ReferenceIdeal Cert.ReferenceIdeal.Gen Cert.ReferenceIdeal.Read
open Cert.KernelIdeal.Ring (scale hidden score top weight head sees)
open scoped BigOperators

/-! ## The mask -/

/-- The sign of a word, as the reference takes it. -/
def hostSign (w : BitVec 32) : BitVec 32 := if w = 0 then 0 else if w.msb then -1 else 1
/-- The reference's division of a word by 64, rounded down. -/
def hostBlock (w : BitVec 32) : BitVec 32 :=
  Scalar.select (IntOp.andi (IntOp.cmpi .ne (hostSign w) (hostSign 64#32))
      (IntOp.cmpi .ne (IntOp.remsi .host w 64#32) 0#32))
    (IntOp.subi (IntOp.divsi .host w 64#32) 1#32) (IntOp.divsi .host w 64#32)

theorem hostBlock_ofNat : ∀ n : Fin 1024, hostBlock (BitVec.ofNat 32 n.val) = BitVec.ofNat 32 (n.val / 64) := by decide +kernel

theorem query_block (r : Fin 1024) : val_main_v3 (F := Ideal) (ix1 r) = BitVec.ofNat 32 (r.val / 64) := by
  rw [← hostBlock_ofNat, val_main_v3_apply, val_main_call0_v11_apply, val_main_call0_v13_apply, val_main_call0_v2_apply, val_main_call0_v6_apply, val_main_call0_v10_apply,
    val_main_call0_v8_apply, val_main_call0_v1_apply, val_main_call0_v5_apply, val_main_call0_v7_apply, val_main_call0_v9_apply, val_main_call0_v12_apply]
  rfl
theorem key_block (j : Fin 1024) : val_main_v6 (F := Ideal) (ix1 j) = BitVec.ofNat 32 (j.val / 64) := by
  rw [← hostBlock_ofNat, val_main_v6_apply, val_main_call1_v11_apply, val_main_call1_v13_apply, val_main_call1_v2_apply, val_main_call1_v6_apply, val_main_call1_v10_apply,
    val_main_call1_v8_apply, val_main_call1_v1_apply, val_main_call1_v5_apply, val_main_call1_v7_apply, val_main_call1_v9_apply, val_main_call1_v12_apply]
  rfl

theorem mask_at (r j : Fin 1024) : val_main_v10 (F := Ideal) (ix2 r j) = if j.val / 64 ≤ r.val / 64 then 1#1 else 0#1 := by
  have hr : idx_main_v4 (idx_main_v9 (ix2 r j)) = ix1 r := funext fun a => by fin_cases a; rfl
  have hj : idx_main_v7 (idx_main_v8 (ix2 r j)) = ix1 j := funext fun a => by fin_cases a; rfl
  rw [val_main_v10_apply, val_main_v8_apply, val_main_v7_apply, val_main_v9_apply, val_main_v4_apply, hr, hj, query_block, key_block, sees]

/-- Joining bits to a set bit leaves it set, and joining a set bit sets it. -/
theorem fold_or_one {ι : Type} [DecidableEq ι] (s : Finset ι) (f : ι → BitVec 1) {i : ι} (hi : i ∈ s) (h : f i = 1#1) : s.fold IntOp.ori 0#1 f = 1#1 := by
  have one_or : ∀ b : BitVec 1, IntOp.ori 1#1 b = 1#1 := by decide
  rw [← Finset.insert_erase hi, Finset.fold_insert (Finset.notMem_erase i s), h, one_or]

/-- Every query sees the first key. -/
theorem row_kept (r : Fin 1024) : val_main_v21 (F := Ideal) (ix1 r) = 1#1 := by
  unfold val_main_v21
  have h : Shape.Reduces S1024x1024 [1] S1024 := by decide
  rw [Host.reduce_eq_fold_single IntOp.ori _ _ reducesTo_S1024x1024_S1024_d1 h h_S_]
  refine fold_or_one Finset.univ _ (Finset.mem_univ (0 : Fin 1024)) ?_
  have hl : h.lift (ix1 r) (0 : Fin 1024) = ix2 r (0 : Fin 1024) := funext fun a => Fin.ext (match a with | ⟨0, _⟩ => rfl | ⟨1, _⟩ => rfl)
  show val_main_v10 (h.lift (ix1 r) (0 : Fin 1024)) = 1#1
  rw [hl, mask_at, if_pos (by show 0 / 64 ≤ _; omega)]

/-! ## The heads -/

section
variable (x0 : (⟨S1x1024x1024, .f32⟩ : BufTy).Contents (Elt Ideal)) (x1 : (⟨S1024x32768, .f32⟩ : BufTy).Contents (Elt Ideal))
  (x2 x3 : (⟨S1x1024x256x128, .f32⟩ : BufTy).Contents (Elt Ideal)) (x4 : (⟨S32768x1024, .f32⟩ : BufTy).Contents (Elt Ideal))

/-- Head `H`'s column `e` among all heads' columns. -/
def col (H : Fin 256) (e : Fin 128) : Fin 32768 := ⟨H.val * 128 + e.val, by omega⟩

/-- The queries, keys and values of head `H`. -/
def rowsQ (H : Fin 256) (r : Fin 1024) (e : Fin 128) : EReal := ∑ t : Fin 1024, x0 (ix3 (0 : Fin 1) r t) * x1 (ix2 t (col H e))
@[inherit_doc rowsQ] def rows (y : (⟨S1x1024x256x128, .f32⟩ : BufTy).Contents (Elt Ideal)) (H : Fin 256) (j : Fin 1024) (e : Fin 128) : EReal := y (ix4 (0 : Fin 1) j H e)

theorem queries_at (H : Fin 256) (r : Fin 1024) (e : Fin 128) : val_main_v1 x0 x1 (ix4 (0 : Fin 1) r H e) = rowsQ x0 x1 H r e := by
  rw [val_main_v1_apply, val_main_v0_apply]
  refine Finset.sum_congr rfl fun t _ => ?_
  refine congrArg₂ (· * ·) (congrArg x0 (funext fun a => Fin.ext ?_)) (congrArg x1 (funext fun a => Fin.ext ?_))
  · match a with
    | ⟨0, _⟩ => rfl
    | ⟨1, _⟩ => show (((0 * 1024 + r.val) * 256 + H.val) * 128 + e.val) / 32768 % 1024 = r.val; omega
    | ⟨2, _⟩ => rfl
  · match a with
    | ⟨0, _⟩ => rfl
    | ⟨1, _⟩ => show (((0 * 1024 + r.val) * 256 + H.val) * 128 + e.val) % 32768 = H.val * 128 + e.val; omega

theorem score_at (H : Fin 256) (r j : Fin 1024) : val_main_v15 x0 x1 x2 (ix4 (0 : Fin 1) H r j) = score (rowsQ x0 x1 H) (rows x2 H) r j := by
  have hm : idx_main_v14 (idx_main_call2_v1 (ix4 (0 : Fin 1) H r j)) = ix2 r j := funext fun a => by fin_cases a <;> rfl
  have hd : val_main_v11 x0 x1 x2 (ix4 (0 : Fin 1) H r j) = ∑ e, rowsQ x0 x1 H r e * rows x2 H j e := by
    rw [val_main_v11_apply]
    refine Finset.sum_congr rfl fun e _ => congrArg₂ (· * ·) ((congrArg (val_main_v1 x0 x1) (funext fun a => ?_)).trans (queries_at x0 x1 H r e)) (congrArg x2 (funext fun a => ?_))
    · fin_cases a <;> rfl
    · fin_cases a <;> rfl
  rw [val_main_v15_apply, val_main_call2_v1_apply, val_main_v14_apply, hm, mask_at, val_main_v13_apply, hd, val_main_v12_apply, val_main_call2_v2_apply]
  unfold score
  split
  · exact select_one _ _
  · exact select_zero _ _

theorem top_at (H : Fin 256) (r : Fin 1024) : val_main_v16 x0 x1 x2 (ix3 (0 : Fin 1) H r) = top (score (rowsQ x0 x1 H) (rows x2 H) r) := by
  unfold val_main_v16
  have h : Shape.Reduces S1x256x1024x1024 [3] S1x256x1024 := by decide
  rw [Host.reduce_eq_fold_single FloatOps.maximumf _ _ reducesTo_S1x256x1024x1024_S1x256x1024_d3 h h_S_]
  refine congrArg (fun f => (Finset.univ : Finset (Fin 1024)).fold max (Ideal.ofBits .f32 0xFF800000#32) f) (funext fun j => ?_)
  refine (congrArg (val_main_v15 x0 x1 x2) (funext fun a => Fin.ext ?_)).trans (score_at x0 x1 x2 H r j)
  match a with
  | ⟨0, _⟩ => rfl
  | ⟨1, _⟩ => rfl
  | ⟨2, _⟩ => rfl
  | ⟨3, _⟩ => rfl

theorem exp_at (H : Fin 256) (r j : Fin 1024) :
    val_main_v20 x0 x1 x2 (ix4 (0 : Fin 1) H r j) = Ideal.exp (score (rowsQ x0 x1 H) (rows x2 H) r j - top (score (rowsQ x0 x1 H) (rows x2 H) r)) := by
  have hi : idx_main_v17 (idx_main_v18 (ix4 (0 : Fin 1) H r j)) = ix3 (0 : Fin 1) H r := funext fun a => by fin_cases a <;> rfl
  rw [val_main_v20_apply, val_main_v19_apply, val_main_v18_apply, val_main_v17_apply, hi, top_at, score_at]
  rfl

theorem weight_at (H : Fin 256) (r j : Fin 1024) : val_main_v29 x0 x1 x2 (ix4 (0 : Fin 1) H r j) = weight (score (rowsQ x0 x1 H) (rows x2 H) r) j := by
  have hk : idx_main_v28 (idx_main_call4_v1 (ix4 (0 : Fin 1) H r j)) = ix1 r := funext fun a => by fin_cases a; rfl
  have hk' : idx_main_v22 (idx_main_call3_v1 (idx_main_v26 (ix4 (0 : Fin 1) H r j))) = ix1 r := funext fun a => by fin_cases a; rfl
  have hi : idx_main_v24 (idx_main_v26 (ix4 (0 : Fin 1) H r j)) = ix3 (0 : Fin 1) H r := funext fun a => by fin_cases a <;> rfl
  have hs : val_main_v23 x0 x1 x2 (ix3 (0 : Fin 1) H r) = ∑ j', Ideal.exp (score (rowsQ x0 x1 H) (rows x2 H) r j' - top (score (rowsQ x0 x1 H) (rows x2 H) r)) := by
    rw [val_main_v23_apply, val_main_cst_4_apply]
    refine (congrArg (· + _) Ideal.ofBits_zero_f32).trans ((zero_add _).trans (Finset.sum_congr rfl fun j' _ => ?_))
    refine (congrArg (val_main_v20 x0 x1 x2) (funext fun a => ?_)).trans (exp_at x0 x1 x2 H r j')
    fin_cases a <;> rfl
  rw [val_main_v29_apply, val_main_call4_v1_apply, val_main_v28_apply, hk, row_kept, select_one, val_main_v27_apply, val_main_v26_apply, val_main_v25_apply,
    val_main_call3_v1_apply, val_main_v22_apply, hk', row_kept, select_one, val_main_v24_apply, hi, hs, exp_at]
  rfl

/-- The head a column belongs to, and its column there. -/
def headOf (n : Fin 32768) : Fin 256 := ⟨n.val / 128, by omega⟩
@[inherit_doc headOf] def colOf (n : Fin 32768) : Fin 128 := ⟨n.val % 128, Nat.mod_lt _ (by decide)⟩

theorem heads_at (r : Fin 1024) (n : Fin 32768) :
    val_main_v32 x0 x1 x2 x3 (ix3 (0 : Fin 1) r n) = head (rowsQ x0 x1 (headOf n)) (rows x2 (headOf n)) (rows x3 (headOf n)) r (colOf n) := by
  have hi : idx_main_v31 (idx_main_v32 (ix3 (0 : Fin 1) r n)) = ix4 (0 : Fin 1) (headOf n) (colOf n) r := funext fun a => Fin.ext (by
    match a with
    | ⟨0, _⟩ => rfl
    | ⟨1, _⟩ => show ((0 * 1024 + r.val) * 32768 + n.val) / 128 % 256 = n.val / 128; omega
    | ⟨2, _⟩ => show ((0 * 1024 + r.val) * 32768 + n.val) % 128 = n.val % 128; omega
    | ⟨3, _⟩ => show ((0 * 1024 + r.val) * 32768 + n.val) / 32768 % 1024 = r.val; omega)
  rw [val_main_v32_apply, val_main_v31_apply, hi, val_main_v30_apply]
  refine Finset.sum_congr rfl fun j _ => ?_
  rw [mul_comm]
  refine congrArg₂ (· * ·) ((congrArg (val_main_v29 x0 x1 x2) (funext fun a => ?_)).trans (weight_at x0 x1 x2 (headOf n) r j)) (congrArg x3 (funext fun a => ?_))
  · fin_cases a <;> rfl
  · fin_cases a <;> rfl

theorem result_at (r c : Fin 1024) :
    val_main_v33 x0 x1 x2 x3 x4 (ix3 (0 : Fin 1) r c)
      = ∑ n : Fin 32768, head (rowsQ x0 x1 (headOf n)) (rows x2 (headOf n)) (rows x3 (headOf n)) r (colOf n) * x4 (ix2 n c) := by
  rw [val_main_v33_apply]
  refine Finset.sum_congr rfl fun n _ => congrArg₂ (· * ·) ((congrArg (val_main_v32 x0 x1 x2 x3) (funext fun a => ?_)).trans (heads_at x0 x1 x2 x3 r n)) (congrArg x4 (funext fun a => ?_))
  · fin_cases a <;> rfl
  · fin_cases a <;> rfl

end

end Cert.ReferenceIdeal.Heads
-- ==== Proof.Value.lean ====
/-
  The value claim: over the extended reals every device's result is the reference's.
-/
module

public import proofs.«01_k».proof.Proof.Frames
public import proofs.«01_k».proof.Proof.Blocks
public import proofs.«01_k».proof.Proof.Sum
public import proofs.«01_k».proof.Proof.RefHeads
public import Idealize.ShloMosaic.Lib.Layout

@[expose] public section

noncomputable section

namespace Cert.KernelIdeal.Ring

open Idealize.ShloMosaic Idealize.ShloMosaic.TcCoe Idealize.ShloMosaic.ValueIdx Idealize.ShloMosaic.StableHlo
open Idealize.SL.Sem
open Cert.KernelIdeal Cert.KernelIdeal.Gen
open scoped BigOperators

variable (m : (ℓ : Loc nD τ sig) → Buf (Elt Ideal) ℓ) (c : Dev nD)

section Part

variable (x0 : S1x1024x1024.Idx → EReal) (x1 : S1024x32768.Idx → EReal) (x2 x3 : S1x1024x8x128.Idx → EReal) (x4 : S32768x1024.Idx → EReal)

/-- Device `c`'s head `h`, of the device's arguments. -/
theorem part_apply (e0 : m ((c : Thread nD τ).loc main_arg0) = x0) (e1 : m ((c : Thread nD τ).loc main_arg1) = x1) (e2 : m ((c : Thread nD τ).loc main_arg2) = x2)
    (e3 : m ((c : Thread nD τ).loc main_arg3) = x3) (e4 : m ((c : Thread nD τ).loc main_arg4) = x4) (h : Fin 8) (r t : Fin 1024) :
    @Eq EReal (part c (V1 m c) h.val (ix2 r t))
      (∑ e : Fin 128, head (fun r e => ∑ u : Fin 1024, x0 (ix3 (0 : Fin 1) r u) * x1 (ix2 u (wide c (packed h e))))
          (fun j e => x2 (ix4 (0 : Fin 1) j h e)) (fun j e => x3 (ix4 (0 : Fin 1) j h e)) r e
        * x4 (ix2 (wide c (packed h e)) t)) := by
  have h0 : ∀ r u, blk0 c (V1 m c) 0 (pt h.val) (ix3 (0 : Fin 1) r u) = x0 (ix3 (0 : Fin 1) r u) := fun r u =>
    (blk0_0 c (V1 m c) h r u).trans ((congrFun (V1_of m c main_arg0 (by decide)) _).trans (congrFun e0 _))
  have h1 : ∀ u e, blk0 c (V1 m c) 1 (pt h.val) (ix2 u e) = x1 (ix2 u (wide c (packed h e))) := fun u e =>
    (blk0_1 c (V1 m c) h u e).trans ((V1_9 m c u (packed h e)).trans (congrFun e1 _))
  have h2 : ∀ j e, blk0 c (V1 m c) 2 (pt h.val) (ix2 j e) = x2 (ix4 (0 : Fin 1) j h e) := fun j e =>
    (blk0_2 c (V1 m c) h j e).trans ((V1_15 m c j (packed h e)).trans ((congrFun e2 _).trans (by rw [hd_packed, hc_packed])))
  have h3 : ∀ j e, blk0 c (V1 m c) 3 (pt h.val) (ix2 j e) = x3 (ix4 (0 : Fin 1) j h e) := fun j e =>
    (blk0_3 c (V1 m c) h j e).trans ((V1_16 m c j (packed h e)).trans ((congrFun e3 _).trans (by rw [hd_packed, hc_packed])))
  have h4 : ∀ e, blk0 c (V1 m c) 4 (pt h.val) (ix2 e t) = x4 (ix2 (wide c (packed h e)) t) := fun e =>
    (blk0_4 c (V1 m c) h e t).trans ((V1_14 m c (packed h e) t).trans (congrFun e4 _))
  unfold part
  generalize blk0 c (V1 m c) 0 (pt h.val) = b0 at h0 ⊢
  generalize blk0 c (V1 m c) 1 (pt h.val) = b1 at h1 ⊢
  generalize blk0 c (V1 m c) 2 (pt h.val) = b2 at h2 ⊢
  generalize blk0 c (V1 m c) 3 (pt h.val) = b3 at h3 ⊢
  generalize blk0 c (V1 m c) 4 (pt h.val) = b4 at h4 ⊢
  have hq : queries b0 b1 = fun r e => ∑ u : Fin 1024, x0 (ix3 (0 : Fin 1) r u) * x1 (ix2 u (wide c (packed h e))) :=
    funext fun r => funext fun e => Finset.sum_congr rfl fun u _ => congrArg₂ (· * ·) (h0 r u) (h1 u e)
  refine (contrib_apply b0 b1 b2 b3 b4 r t).trans (Finset.sum_congr rfl fun e _ => congrArg₂ (· * ·) ?_ (h4 e))
  rw [hq, funext fun j => funext fun e => h2 j e, funext fun j => funext fun e => h3 j e]

end Part

/-- The result is the all-reduce's, under one more axis. -/
theorem A2_19 (i : Fin 1) (r t : Fin 1024) : A2 m c (Proc.devRef .tc main_v19) (ix3 i r t) = A1 m c (Proc.devRef .tc main_v18) (ix2 r t) := by
  unfold A2
  after_results
  exact broadcastInDim_apply _ _ _ _ _ (fun a => by fin_cases a <;> rfl)

theorem result_apply (i : Fin 1) (r t : Fin 1024) :
    @Eq EReal (A2 m c (Proc.devRef .tc main_v19) (ix3 i r t)) (∑ d : Dev nD, ∑ h : Fin 8, part d (V1 m d) h.val (ix2 r t)) := by
  rw [A2_19, A1_18, gathered_full]
  refine Finset.sum_congr rfl fun d _ => ?_
  exact (acc_apply d (V1 m d) 7 (ix2 r t)).trans (Finset.sum_range _)

end Cert.KernelIdeal.Ring

namespace Cert.Proof

open Idealize.ShloMosaic Idealize.ShloMosaic.ValueIdx Idealize.SL.Sem
open Cert.KernelIdeal.Ring Cert.ReferenceIdeal.Heads
open scoped BigOperators

attribute [local instance] Cert.Kernel.Gen.facts Cert.KernelIdeal.Gen.facts Cert.ReferenceIdeal.Gen.facts

/-- Head `h` of a device's keys or values is head `glob d h` of all. -/
theorem block_apply (d : Fin 32) (v : (⟨4, ![1, 1024, 256, 128]⟩ : Shape).Idx → EReal) (j : Fin 1024) (h : Fin 8) (e : Fin 128)
    (hT : Layout.Tiles ⟨4, ![1, 1024, 8, 128]⟩ ⟨4, ![1, 1024, 256, 128]⟩ 2 32) :
    Layout.block ⟨4, ![1, 1024, 8, 128]⟩ ⟨4, ![1, 1024, 256, 128]⟩ 2 32 d v hT (ix4 (0 : Fin 1) j h e) = v (ix4 (0 : Fin 1) j (glob d h) e) := by
  rw [Layout.block_apply]
  exact congrArg v (funext fun a => Fin.ext (by fin_cases a <;> rfl))

theorem wide_packed (d : Dev Cert.KernelIdeal.nD) (h : Fin 8) (e : Fin 128) : wide d (packed h e) = col (glob d h) e :=
  Fin.ext (by show 1024 * d.val + (h.val * 128 + e.val) = (d.val * 8 + h.val) * 128 + e.val; omega)

theorem headOf_col (H : Fin 256) (e : Fin 128) : headOf (col H e) = H := Fin.ext (by show (H.val * 128 + e.val) / 128 = H.val; omega)
theorem colOf_col (H : Fin 256) (e : Fin 128) : colOf (col H e) = e := Fin.ext (by show (H.val * 128 + e.val) % 128 = e.val; omega)

/-- The reference's result, its heads dealt to the devices. -/
theorem reference_apply (x0 : (⟨Cert.ReferenceIdeal.S1x1024x1024, .f32⟩ : BufTy).Contents (Elt Ideal)) (x1 : (⟨Cert.ReferenceIdeal.S1024x32768, .f32⟩ : BufTy).Contents (Elt Ideal))
    (x2 x3 : (⟨Cert.ReferenceIdeal.S1x1024x256x128, .f32⟩ : BufTy).Contents (Elt Ideal)) (x4 : (⟨Cert.ReferenceIdeal.S32768x1024, .f32⟩ : BufTy).Contents (Elt Ideal))
    (r t : Fin 1024) :
    Cert.ReferenceIdeal.Read.val_main_v33 x0 x1 x2 x3 x4 (ix3 (0 : Fin 1) r t)
      = ∑ d : Dev Cert.KernelIdeal.nD, ∑ h : Fin 8, ∑ e : Fin 128,
          head (rowsQ x0 x1 (glob d h)) (rows x2 (glob d h)) (rows x3 (glob d h)) r e * x4 (ix2 (col (glob d h) e) t) :=
  (result_at x0 x1 x2 x3 x4 r t).trans (sum_heads _
    (fun H e => head (rowsQ x0 x1 H) (rows x2 H) (rows x3 H) r e * x4 (ix2 (col H e) t)) fun H e => by
      show head (rowsQ x0 x1 (headOf (col H e))) (rows x2 (headOf (col H e))) (rows x3 (headOf (col H e))) r (colOf (col H e)) * x4 (ix2 (col H e) t) = _
      rw [headOf_col, colOf_col])

theorem algebraic : Cert.algebraic_KernelIdeal_ReferenceIdeal := by
  intro m g m' g' _ hagree
  refine ⟨Cert.ReferenceIdeal.Value.res_main_v33 m' 0, ?_, ?_⟩
  · refine (θ_run Cert.KernelIdeal.defs _ _).mono (fun r h c => ⟨(h.1 c).1.trans ?_, (h.1 c).2⟩) (run_main (F := Ideal) m g)
    rw [Cert.ReferenceIdeal.Read.val_main_v33_eq]
    funext i
    obtain ⟨i0, r, t, rfl⟩ : ∃ (a : Fin 1) (b c : Fin 1024), i = ix3 a b c := ⟨i 0, i 1, i 2, eq_ix3 i⟩
    obtain rfl : i0 = 0 := Subsingleton.elim _ _
    refine (result_apply m c 0 r t).trans (Eq.symm ((reference_apply _ _ _ _ _ r t).trans ?_))
    refine Finset.sum_congr rfl fun d _ => Finset.sum_congr rfl fun h _ => ?_
    obtain ⟨e0, e1, e2, e3, e4⟩ := hagree d
    refine Eq.trans ?_ (part_apply m d _ _ _ _ _ e0 e1 e2 e3 e4 h r t).symm
    simp only [wide_packed]
    refine Finset.sum_congr rfl fun e _ => congrArg (· * _) ?_
    refine congrArg₂ (fun K V => head (rowsQ _ _ (glob d h)) K V r e) (funext fun j => funext fun e => ?_) (funext fun j => funext fun e => ?_)
    · exact (block_apply d _ j h e _).symm
    · exact (block_apply d _ j h e _).symm
  · exact (θ_run Cert.ReferenceIdeal.defs _ _).mono (fun _ h => h 0) (Cert.ReferenceIdeal.Value.run (F := Ideal) m' g')

end Cert.Proof
-- ==== Proof.lean ====
module

public import proofs.«01_k».proof.Proof.Gen.ReferenceIdeal.Read
public import proofs.«01_k».proof.Proof.Frames
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_ideal, frame_reference, trivial, algebraic⟩

end Cert.Proof

end
